-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_rows [hPre_finite_rows : Cert.Pre_finite_rows.Facts] (m : (ℓ : Loc Cert.KernelIdeal.nD Cert.KernelIdeal.τ Cert.KernelIdeal.sig) → Buf (Elt Ideal) ℓ) : Prop :=
  ∀ c : Dev Cert.KernelIdeal.nD,
    (Cert.Pre_finite_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_rows [hPre_finite_rows : Cert.Pre_finite_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_rows [hKernelIdeal : Cert.KernelIdeal.Facts] [hPre_finite_rows : Cert.Pre_finite_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_rows [hReferenceIdeal : Cert.ReferenceIdeal.Facts] [hPre_finite_rows : Cert.Pre_finite_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_rows [hKernelIdeal : Cert.KernelIdeal.Facts] [hReferenceIdeal : Cert.ReferenceIdeal.Facts] [hPre_finite_rows : Cert.Pre_finite_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_rows : Cert.Pre_finite_rows.Facts),
    quiescent_Kernel (hKernel := hKernel)
    ∧ quiescent_KernelIdeal (hKernelIdeal := hKernelIdeal)
    ∧ quiescent_KernelIdeal_pre_finite_rows (hKernelIdeal := hKernelIdeal) (hPre_finite_rows := hPre_finite_rows)
    ∧ quiescent_ReferenceIdeal (hReferenceIdeal := hReferenceIdeal)
    ∧ quiescent_ReferenceIdeal_pre_finite_rows (hReferenceIdeal := hReferenceIdeal) (hPre_finite_rows := hPre_finite_rows)
    ∧ preserves_Kernel_KernelIdeal
    ∧ algebraic_KernelIdeal_ReferenceIdeal_pre_finite_rows (hKernelIdeal := hKernelIdeal) (hReferenceIdeal := hReferenceIdeal) (hPre_finite_rows := hPre_finite_rows)
-- ==== Pre_finite_rows.lean ====
abbrev S1x2048x2048 : Shape := ⟨3, ![1, 2048, 2048]⟩
abbrev S1x2048x1536 : Shape := ⟨3, ![1, 2048, 1536]⟩
abbrev S1024x1536 : Shape := ⟨2, ![1024, 1536]⟩
abbrev S128x2048 : Shape := ⟨2, ![128, 2048]⟩
abbrev S128 : Shape := ⟨1, ![128]⟩
abbrev S8x2048 : Shape := ⟨2, ![8, 2048]⟩
abbrev S_ : Shape := ⟨0, ![]⟩

class Facts : Prop where
  bcast_S_S1x2048x2048 : S_.BroadcastsInDim S1x2048x2048 (![] : Fin 0 → Fin S1x2048x2048.rank)
  bcast_S_S128x2048 : S_.BroadcastsInDim S128x2048 (![] : Fin 0 → Fin S128x2048.rank)

variable [Facts]

def fn {F : FTy → Type} [FloatOps F] (main_arg0 : FVec F S1x2048x2048 .f32) (main_arg1 : FVec F S1x2048x1536 .f32) (main_arg2 : FVec F S1024x1536 .f32) (main_arg3 : FVec F S128x2048 .f32) (main_arg4 : FVec F S128 .f32) (main_arg5 : FVec F S128 .f32) (main_arg6 : FVec F S8x2048 .f32) : IVec S1x2048x2048 1 × IVec S128x2048 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_v3 : FVec F S128x2048 .f32 := Host.absf main_arg3
  let main_cst_0 : FVec F S_ .f32 := constant S_ .f32 0x7F800000#32
  let main_v4 : FVec F S128x2048 .f32 := broadcastInDim S128x2048 ![] bcast_S_S128x2048 main_cst_0
  let main_v5 : IVec S128x2048 1 := cmpf .olt main_v3 main_v4
  (main_v2, main_v5)
-- ==== Kernel.lean ====
abbrev S1x2048x2048 : Shape := ⟨3, ![1, 2048, 2048]⟩
abbrev S1x2048x1536 : Shape := ⟨3, ![1, 2048, 1536]⟩
abbrev S1024x1536 : Shape := ⟨2, ![1024, 1536]⟩
abbrev S128x2048 : Shape := ⟨2, ![128, 2048]⟩
abbrev S128 : Shape := ⟨1, ![128]⟩
abbrev S8x2048 : Shape := ⟨2, ![8, 2048]⟩
abbrev S2048x2048 : Shape := ⟨2, ![2048, 2048]⟩
abbrev S2048x1536 : Shape := ⟨2, ![2048, 1536]⟩
abbrev S2048x128 : Shape := ⟨2, ![2048, 128]⟩
abbrev S2048x8 : Shape := ⟨2, ![2048, 8]⟩
abbrev S2048x1 : Shape := ⟨2, ![2048, 1]⟩
abbrev S1x128 : Shape := ⟨2, ![1, 128]⟩
abbrev S2048x1024 : Shape := ⟨2, ![2048, 1024]⟩
abbrev S2048x256 : Shape := ⟨2, ![2048, 256]⟩
abbrev S1024x256 : Shape := ⟨2, ![1024, 256]⟩
abbrev S2048x512 : Shape := ⟨2, ![2048, 512]⟩
abbrev S256x1024 : Shape := ⟨2, ![256, 1024]⟩
abbrev S256x8 : Shape := ⟨2, ![256, 8]⟩
abbrev S256x512 : Shape := ⟨2, ![256, 512]⟩
abbrev S8x128 : Shape := ⟨2, ![8, 128]⟩
abbrev S256x2048 : Shape := ⟨2, ![256, 2048]⟩
abbrev S256x128 : Shape := ⟨2, ![256, 128]⟩
abbrev S256x1 : Shape := ⟨2, ![256, 1]⟩
abbrev S1x2048 : Shape := ⟨2, ![1, 2048]⟩
abbrev S1x2048x512 : Shape := ⟨3, ![1, 2048, 512]⟩

abbrev nBuf : Space → Nat
  | .hbm => 14
  | .vmem => 18
  | .smem => 0
  | _ => 0

abbrev bufTy : (tb : Table) → Fin (tcTables nBuf tb) → BufTy
  | .hbm, ⟨0, _⟩ => ⟨S1x2048x2048, .f32⟩
  | .hbm, ⟨1, _⟩ => ⟨S1x2048x1536, .f32⟩
  | .hbm, ⟨2, _⟩ => ⟨S1024x1536, .f32⟩
  | .hbm, ⟨3, _⟩ => ⟨S128x2048, .f32⟩
  | .hbm, ⟨4, _⟩ => ⟨S128, .f32⟩
  | .hbm, ⟨5, _⟩ => ⟨S128, .f32⟩
  | .hbm, ⟨6, _⟩ => ⟨S8x2048, .f32⟩
  | .hbm, ⟨7, _⟩ => ⟨S2048x2048, .f32⟩
  | .hbm, ⟨8, _⟩ => ⟨S2048x1536, .f32⟩
  | .hbm, ⟨9, _⟩ => ⟨S2048x128, .f32⟩
  | .hbm, ⟨10, _⟩ => ⟨S2048x8, .f32⟩
  | .hbm, ⟨11, _⟩ => ⟨S2048x1024, .f32⟩
  | .hbm, ⟨12, _⟩ => ⟨S2048x512, .i32⟩
  | .hbm, ⟨13, _⟩ => ⟨S1x2048x512, .i32⟩
  | .local _ .vmem, ⟨0, _⟩ => ⟨S2048x2048, .f32⟩
  | .local _ .vmem, ⟨1, _⟩ => ⟨S128x2048, .f32⟩
  | .local _ .vmem, ⟨2, _⟩ => ⟨S128, .f32⟩
  | .local _ .vmem, ⟨3, _⟩ => ⟨S128, .f32⟩
  | .local _ .vmem, ⟨4, _⟩ => ⟨S8x2048, .f32⟩
  | .local _ .vmem, ⟨5, _⟩ => ⟨S2048x128, .f32⟩
  | .local _ .vmem, ⟨6, _⟩ => ⟨S2048x8, .f32⟩
  | .local _ .vmem, ⟨7, _⟩ => ⟨S2048x1536, .f32⟩
  | .local _ .vmem, ⟨8, _⟩ => ⟨S1024x1536, .f32⟩
  | .local _ .vmem, ⟨9, _⟩ => ⟨S2048x1024, .f32⟩
  | .local _ .vmem, ⟨10, _⟩ => ⟨S256x1024, .f32⟩
  | .local _ .vmem, ⟨11, _⟩ => ⟨S256x1024, .f32⟩
  | .local _ .vmem, ⟨12, _⟩ => ⟨S256x8, .f32⟩
  | .local _ .vmem, ⟨13, _⟩ => ⟨S256x8, .f32⟩
  | .local _ .vmem, ⟨14, _⟩ => ⟨S2048x128, .f32⟩
  | .local _ .vmem, ⟨15, _⟩ => ⟨S256x512, .i32⟩
  | .local _ .vmem, ⟨16, _⟩ => ⟨S256x512, .i32⟩
  | .local _ .vmem, ⟨17, _⟩ => ⟨S8x128, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc2_scratch0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem1_0 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem3_1 : DmaSem sig := 16

abbrev nD : Nat := 1
abbrev τ : Topo := Topo.v7x

variable {F : FTy → Type} [FloatOps F]

abbrev grid0 : Pipeline.Grid := .none

abbrev stage0_0 : Fin 1 → Memref sig .tc .vmem S2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev grid1 : Pipeline.Grid := .none

abbrev stage1_0 : Fin 1 → Memref sig .tc .vmem S2048x1536 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x1536 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S2048x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x8 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S2048x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x512 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]
-- ==== ReferenceIdeal.lean ====
abbrev S1x2048x2048 : Shape := ⟨3, ![1, 2048, 2048]⟩
abbrev S1x2048x1536 : Shape := ⟨3, ![1, 2048, 1536]⟩
abbrev S1024x1536 : Shape := ⟨2, ![1024, 1536]⟩
abbrev S128x2048 : Shape := ⟨2, ![128, 2048]⟩
abbrev S128 : Shape := ⟨1, ![128]⟩
abbrev S8x2048 : Shape := ⟨2, ![8, 2048]⟩
abbrev S1536x1024 : Shape := ⟨2, ![1536, 1024]⟩
abbrev S1x2048x1024 : Shape := ⟨3, ![1, 2048, 1024]⟩
abbrev S1x2048x8x128 : Shape := ⟨4, ![1, 2048, 8, 128]⟩
abbrev S2048x128 : Shape := ⟨2, ![2048, 128]⟩
abbrev S1x2048x128 : Shape := ⟨3, ![1, 2048, 128]⟩
abbrev S_ : Shape := ⟨0, ![]⟩
abbrev S1x2048 : Shape := ⟨2, ![1, 2048]⟩
abbrev S1x2048x1 : Shape := ⟨3, ![1, 2048, 1]⟩
abbrev S1x1x128 : Shape := ⟨3, ![1, 1, 128]⟩
abbrev S1x2048x8x2048 : Shape := ⟨4, ![1, 2048, 8, 2048]⟩
abbrev S2048x8 : Shape := ⟨2, ![2048, 8]⟩
abbrev S1x2048x8 : Shape := ⟨3, ![1, 2048, 8]⟩
abbrev S1x2048x8x1 : Shape := ⟨4, ![1, 2048, 8, 1]⟩
abbrev S1x2048x512 : Shape := ⟨3, ![1, 2048, 512]⟩

abbrev nBuf : Space → Nat
  | .hbm => 72
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048x1536, .f32⟩
  | .hbm, ⟨2, _⟩ => ⟨S1024x1536, .f32⟩
  | .hbm, ⟨3, _⟩ => ⟨S128x2048, .f32⟩
  | .hbm, ⟨4, _⟩ => ⟨S128, .f32⟩
  | .hbm, ⟨5, _⟩ => ⟨S128, .f32⟩
  | .hbm, ⟨6, _⟩ => ⟨S8x2048, .f32⟩
  | .hbm, ⟨7, _⟩ => ⟨S1536x1024, .f32⟩
  | .hbm, ⟨8, _⟩ => ⟨S1x2048x1024, .f32⟩
  | .hbm, ⟨9, _⟩ => ⟨S1x2048x8x128, .f32⟩
  | .hbm, ⟨10, _⟩ => ⟨S2048x128, .f32⟩
  | .hbm, ⟨11, _⟩ => ⟨S1x2048x128, .f32⟩
  | .hbm, ⟨12, _⟩ => ⟨S_, .f32⟩
  | .hbm, ⟨13, _⟩ => ⟨S1x2048, .f32⟩
  | .hbm, ⟨14, _⟩ => ⟨S1x2048x1, .f32⟩
  | .hbm, ⟨15, _⟩ => ⟨S_, .f32⟩
  | .hbm, ⟨16, _⟩ => ⟨S1x2048x1, .f32⟩
  | .hbm, ⟨17, _⟩ => ⟨S1x2048x1, .f32⟩
  | .hbm, ⟨18, _⟩ => ⟨S_, .i32⟩
  | .hbm, ⟨19, _⟩ => ⟨S_, .f32⟩
  | .hbm, ⟨20, _⟩ => ⟨S1x2048, .f32⟩
  | .hbm, ⟨21, _⟩ => ⟨S1x2048x1, .f32⟩
  | .hbm, ⟨22, _⟩ => ⟨S_, .f32⟩
  | .hbm, ⟨23, _⟩ => ⟨S1x2048x1, .f32⟩
  | .hbm, ⟨24, _⟩ => ⟨S1x2048x1, .f32⟩
  | .hbm, ⟨25, _⟩ => ⟨S1x2048x128, .f32⟩
  | .hbm, ⟨26, _⟩ => ⟨S1x2048x128, .f32⟩
  | .hbm, ⟨27, _⟩ => ⟨S1x2048x128, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S1x2048, .f32⟩
  | .hbm, ⟨33, _⟩ => ⟨S1x2048x1, .f32⟩
  | .hbm, ⟨34, _⟩ => ⟨S1x2048x1, .f32⟩
  | .hbm, ⟨35, _⟩ => ⟨S1x2048x1, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S1x2048x1, .f32⟩
  | .hbm, ⟨41, _⟩ => ⟨S1x2048x1, .f32⟩
  | .hbm, ⟨42, _⟩ => ⟨S1x2048x128, .f32⟩
  | .hbm, ⟨43, _⟩ => ⟨S1x2048x128, .f32⟩
  | .hbm, ⟨44, _⟩ => ⟨S_, .f32⟩
  | .hbm, ⟨45, _⟩ => ⟨S1x2048x1, .f32⟩
  | .hbm, ⟨46, _⟩ => ⟨S1x2048x1, .f32⟩
  | .hbm, ⟨47, _⟩ => ⟨S1x2048x1, .f32⟩
  | .hbm, ⟨48, _⟩ => ⟨S1x2048x128, .f32⟩
  | .hbm, ⟨49, _⟩ => ⟨S1x2048x128, .f32⟩
  | .hbm, ⟨50, _⟩ => ⟨S1x1x128, .f32⟩
  | .hbm, ⟨51, _⟩ => ⟨S1x2048x128, .f32⟩
  | .hbm, ⟨52, _⟩ => ⟨S1x2048x128, .f32⟩
  | .hbm, ⟨53, _⟩ => ⟨S1x1x128, .f32⟩
  | .hbm, ⟨54, _⟩ => ⟨S1x2048x128, .f32⟩
  | .hbm, ⟨55, _⟩ => ⟨S1x2048x128, .f32⟩
  | .hbm, ⟨56, _⟩ => ⟨S1x2048x8x2048, .f32⟩
  | .hbm, ⟨57, _⟩ => ⟨S_, .f32⟩
  | .hbm, ⟨58, _⟩ => ⟨S1x2048x8x2048, .f32⟩
  | .hbm, ⟨59, _⟩ => ⟨S1x2048x8x2048, .f32⟩
  | .hbm, ⟨60, _⟩ => ⟨S2048x8, .f32⟩
  | .hbm, ⟨61, _⟩ => ⟨S1x2048x8, .f32⟩
  | .hbm, ⟨62, _⟩ => ⟨S_, .f32⟩
  | .hbm, ⟨63, _⟩ => ⟨S1x2048x8, .f32⟩
  | .hbm, ⟨64, _⟩ => ⟨S1x2048x8, .f32⟩
  | .hbm, ⟨65, _⟩ => ⟨S1x2048x8x1, .f32⟩
  | .hbm, ⟨66, _⟩ => ⟨S1x2048x8x2048, .f32⟩
  | .hbm, ⟨67, _⟩ => ⟨S1x2048x8x2048, .f32⟩
  | .hbm, ⟨68, _⟩ => ⟨S_, .f32⟩
  | .hbm, ⟨69, _⟩ => ⟨S1x2048x2048, .f32⟩
  | .hbm, ⟨70, _⟩ => ⟨S1x2048x512, .f32⟩
  | .hbm, ⟨71, _⟩ => ⟨S1x2048x512, .i32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_cst_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_cst_1 : Ref sig .tc := ⟨.hbm, 29, rfl⟩
abbrev main_call0_v8 : Ref sig .tc := ⟨.hbm, 30, rfl⟩
abbrev main_call0_cst_2 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_cst_3 : Ref sig .tc := ⟨.hbm, 36, rfl⟩
abbrev main_call0_v13 : Ref sig .tc := ⟨.hbm, 37, rfl⟩
abbrev main_call0_cst_4 : Ref sig .tc := ⟨.hbm, 38, rfl⟩
abbrev main_call0_call0_v0 : Ref sig .tc := ⟨.hbm, 39, rfl⟩
abbrev main_call0_call0_v1 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_cst_1 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_2 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_cst_3 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_cst_4 : Ref sig .tc := ⟨.hbm, 68, rfl⟩
abbrev main_v33 : Ref sig .tc := ⟨.hbm, 69, rfl⟩
abbrev main_values : Ref sig .tc := ⟨.hbm, 70, rfl⟩
abbrev main_indices : Ref sig .tc := ⟨.hbm, 71, rfl⟩

abbrev nD : Nat := 1
abbrev τ : Topo := Topo.v7x

variable {F : FTy → Type} [FloatOps F]
-- ==== Proof.Spec.lean ====
module

public import Idealize.ShloMosaic.PureOps.Ideal.Laws
public import Idealize.ShloMosaic.Lib.Pointwise

@[expose] public section

/-! The two layer norms of a row of 128 numbers, as the kernel and as the reference compute them. -/

namespace Cert.Indexer

open Idealize.ShloMosaic
open scoped BigOperators

/-- The mean by a product with 1/128. -/
noncomputable def meanMul (y : Fin 128 → EReal) : EReal := (∑ d, y d) * Ideal.ofBits .f32 0x3C000000#32

/-- A row less its mean. -/
noncomputable def devMul (y : Fin 128 → EReal) (d : Fin 128) : EReal := y d - meanMul y

/-- The variance and the small constant. -/
noncomputable def varMul (y : Fin 128 → EReal) : EReal :=
  meanMul (fun d => devMul y d * devMul y d) + Ideal.ofBits .f32 0x3727C5AC#32

/-- The kernel's layer norm. -/
noncomputable def normMul (y : Fin 128 → EReal) (g b : EReal) (d : Fin 128) : EReal :=
  devMul y d * Ideal.div 1 (varMul y * Ideal.rsqrt (varMul y)) * g + b

/-- The mean by a quotient by 128. -/
noncomputable def meanDiv (y : Fin 128 → EReal) : EReal := Ideal.div (∑ d, y d) (Ideal.ofBits .f32 0x43000000#32)

/-- The reference's layer norm. -/
noncomputable def normDiv (y : Fin 128 → EReal) (g b : EReal) (d : Fin 128) : EReal :=
  Ideal.div (y d - meanDiv y)
    (Ideal.sqrt (meanDiv (fun d => (y d - meanDiv y) * (y d - meanDiv y)) + Ideal.ofBits .f32 0x3727C5AC#32)) * g + b

end Cert.Indexer
-- ==== Proof.KeyRead.lean ====
module

public import proofs.«01_k».proof.Proof.Spec
public import proofs.«01_k».proof.Proof.Gen.KernelIdeal.Frame
public import Idealize.ShloMosaic.Lib.Pointwise

@[expose] public section

set_option maxRecDepth 16384

/-! The first call's payloads at an index: sums along the lanes by rotations, the layer norm of the keys, and the gates. -/

namespace Cert.KernelIdeal.Keys

open Idealize.ShloMosaic Cert.KernelIdeal Cert.KernelIdeal.Gen Cert.Indexer
open scoped BigOperators

variable (v : FVec Ideal S2048x128 .f32)

/-- An array and its rotation along the lanes, added. -/
noncomputable def rollAdd (n : BitVec 32) (v a : FVec Ideal S2048x128 .f32) : FVec Ideal S2048x128 .f32 :=
  addf (dynamicRotate 1 n none v rotates_S2048x128_d1) a

theorem rollAdd_apply (n : BitVec 32) (a : FVec Ideal S2048x128 .f32) (r : Fin 2048) (c c' : Fin 128)
    (h : c'.val = (c.val + 128 - n.toNat % 128) % 128) :
    rollAdd n v a (ix2 r c) = v (ix2 r c') + a (ix2 r c) := by
  have e : (ix2 r c' : S2048x128.Idx) = ix2 r ⟨(c.val + 128 - n.toNat % 128) % 128, Nat.mod_lt _ (by decide)⟩ :=
    congrArg (ix2 r) (Fin.ext h)
  rw [e]
  pointwise [rollAdd]

/-- The sixteen lanes a multiple of eight apart, added. -/
noncomputable def strided : FVec Ideal S2048x128 .f32 :=
  rollAdd 8#32 v (rollAdd 16#32 v (rollAdd 24#32 v (rollAdd 32#32 v (rollAdd 40#32 v (rollAdd 48#32 v (rollAdd 56#32 v
    (rollAdd 64#32 v (rollAdd 72#32 v (rollAdd 80#32 v (rollAdd 88#32 v (rollAdd 96#32 v (rollAdd 104#32 v
      (rollAdd 112#32 v (rollAdd 120#32 v v))))))))))))))

/-- The eight lanes left, added. -/
noncomputable def folded (u : FVec Ideal S2048x128 .f32) : FVec Ideal S2048x128 .f32 :=
  rollAdd 127#32 (rollAdd 126#32 (rollAdd 124#32 u u) (rollAdd 124#32 u u)) (rollAdd 126#32 (rollAdd 124#32 u u) (rollAdd 124#32 u u))

theorem strided_apply (r : Fin 2048) (l : Fin 8) :
    strided v (ix2 r ⟨l.val, by omega⟩) = ∑ g : Fin 16, v (ix2 r ⟨g.val * 8 + l.val, by omega⟩) := by
  obtain ⟨f, hf⟩ : ∃ f : Fin 16 → EReal, f = fun g => v (ix2 r ⟨g.val * 8 + l.val, by omega⟩) := ⟨_, rfl⟩
  have A : ∀ (n : BitVec 32) (a : FVec Ideal S2048x128 .f32) (g : Fin 16),
      g.val * 8 + l.val = (l.val + 128 - n.toNat % 128) % 128 →
      rollAdd n v a (ix2 r ⟨l.val, by omega⟩) = f g + a (ix2 r ⟨l.val, by omega⟩) := fun n a g h => by
    rw [hf]
    exact rollAdd_apply v n a r ⟨l.val, by omega⟩ ⟨g.val * 8 + l.val, by omega⟩ h
  have e0 : v (ix2 r ⟨l.val, by omega⟩) = f 0 := by
    rw [hf]
    exact congrArg v (congrArg (ix2 r) (Fin.ext (show l.val = 0 * 8 + l.val by omega)))
  have s0 : (∑ g : Fin 16, v (ix2 r ⟨g.val * 8 + l.val, by omega⟩)) = ∑ g, f g := by rw [hf]
  rw [s0]
  unfold strided
  rw [A 8#32 _ 15 (by simp; omega), A 16#32 _ 14 (by simp; omega), A 24#32 _ 13 (by simp; omega), A 32#32 _ 12 (by simp; omega),
    A 40#32 _ 11 (by simp; omega), A 48#32 _ 10 (by simp; omega), A 56#32 _ 9 (by simp; omega), A 64#32 _ 8 (by simp; omega),
    A 72#32 _ 7 (by simp; omega), A 80#32 _ 6 (by simp; omega), A 88#32 _ 5 (by simp; omega), A 96#32 _ 4 (by simp; omega),
    A 104#32 _ 3 (by simp; omega), A 112#32 _ 2 (by simp; omega), A 120#32 _ 1 (by simp; omega), e0]
  simp only [Fin.sum_univ_castSucc, Fin.sum_univ_zero, zero_add]
  show _ = f 0 + f 1 + f 2 + f 3 + f 4 + f 5 + f 6 + f 7 + f 8 + f 9 + f 10 + f 11 + f 12 + f 13 + f 14 + f 15
  ac_rfl

theorem folded_apply (u : FVec Ideal S2048x128 .f32) (r : Fin 2048) :
    folded u (ix2 r 0) = ∑ l : Fin 8, u (ix2 r ⟨l.val, by omega⟩) := by
  unfold folded
  rw [rollAdd_apply _ 127#32 _ r 0 1 (by decide), rollAdd_apply _ 126#32 _ r 1 3 (by decide), rollAdd_apply _ 126#32 _ r 0 2 (by decide),
    rollAdd_apply _ 124#32 _ r 3 7 (by decide), rollAdd_apply _ 124#32 _ r 2 6 (by decide), rollAdd_apply _ 124#32 _ r 1 5 (by decide),
    rollAdd_apply _ 124#32 _ r 0 4 (by decide), Fin.sum_univ_eight]
  show u (ix2 r 7) + u (ix2 r 3) + (u (ix2 r 5) + u (ix2 r 1)) + (u (ix2 r 6) + u (ix2 r 2) + (u (ix2 r 4) + u (ix2 r 0)))
    = u (ix2 r 0) + u (ix2 r 1) + u (ix2 r 2) + u (ix2 r 3) + u (ix2 r 4) + u (ix2 r 5) + u (ix2 r 6) + u (ix2 r 7)
  ac_rfl

/-- Lane 0 of the rotated sums is the sum of the row. -/
theorem laneSum_apply (r : Fin 2048) : folded (strided v) (ix2 r 0) = ∑ d : Fin 128, v (ix2 r d) := by
  rw [folded_apply]
  simp only [strided_apply]
  rw [Finset.sum_comm]
  exact (Fin.sum_univ_tiles 16 8 rfl (fun d : Fin 128 => v (ix2 r d))).symm

/-- The mean of every row, along the lanes. -/
noncomputable def means : FVec Ideal S2048x128 .f32 :=
  broadcastTo S2048x128 (mulf (extractStridedSlice S2048x1 ![0, 0] (folded (strided v)) slices_S2048x128_o0_0_S2048x1)
    (broadcast S2048x1 (Scalar.ofBits .f32 0x3C000000#32))) broadcasts_S2048x1_S2048x128

theorem means_apply (r : Fin 2048) (d : Fin 128) : means v (ix2 r d) = meanMul fun d => v (ix2 r d) := by
  unfold meanMul
  rw [← laneSum_apply]
  pointwise [means]

/-- The first payload chain as the sums along the lanes. -/
theorem dev_eq (x : FVec Ideal S2048x2048 .f32) (wk : FVec Ideal S128x2048 .f32) :
    k0_pay6 (F := Ideal) (k0_pay3 x wk) (k0_pay4 x wk) (k0_pay5 x wk) = subf (k0_pay3 x wk) (means (k0_pay3 x wk)) := rfl

theorem proj_apply (x : FVec Ideal S2048x2048 .f32) (wk : FVec Ideal S128x2048 .f32) (r : Fin 2048) (d : Fin 128) :
    k0_pay3 (F := Ideal) x wk (ix2 r d) = ∑ j : Fin 2048, x (ix2 r j) * wk (ix2 d j) := by
  pointwise [k0_pay3]

/-- The gates at an index. -/
theorem gate_apply (x : FVec Ideal S2048x2048 .f32) (ww : FVec Ideal S8x2048 .f32) (r : Fin 2048) (h : Fin 8) :
    k0_pay2 (F := Ideal) x ww (ix2 r h) = (∑ j : Fin 2048, x (ix2 r j) * ww (ix2 h j)) * Ideal.ofBits .f32 0x3EB504F3#32 := by
  pointwise [k0_pay2]

/-- The layer norm from the deviations and the sums of their squares. -/
noncomputable def normal (dv f : FVec Ideal S2048x128 .f32) (g b : FVec Ideal S128 .f32) : FVec Ideal S2048x128 .f32 :=
  let sv := addf (mulf (extractStridedSlice S2048x1 ![0, 0] f slices_S2048x128_o0_0_S2048x1) (broadcast S2048x1 (Scalar.ofBits .f32 0x3C000000#32)))
    (broadcast S2048x1 (Scalar.ofBits .f32 0x3727C5AC#32))
  addf (mulf (mulf dv (broadcastTo S2048x128 (divf (broadcast S2048x1 (Scalar.ofBits .f32 0x3F800000#32)) (mulf sv (rsqrt sv)))
      broadcasts_S2048x1_S2048x128))
      (broadcastTo S2048x128 (shapeCast S1x128 g shapeCasts_S128_S1x128) broadcasts_S1x128_S2048x128))
    (broadcastTo S2048x128 (shapeCast S1x128 b shapeCasts_S128_S1x128) broadcasts_S1x128_S2048x128)

/-- The keys from the projection. -/
noncomputable def keys (y : FVec Ideal S2048x128 .f32) (g b : FVec Ideal S128 .f32) : FVec Ideal S2048x128 .f32 :=
  normal (subf y (means y)) (folded (strided (mulf (subf y (means y)) (subf y (means y))))) g b

theorem keys_eq (x : FVec Ideal S2048x2048 .f32) (wk : FVec Ideal S128x2048 .f32) (g b : FVec Ideal S128 .f32) :
    k0_pay1 (F := Ideal) (k0_pay6 (k0_pay3 x wk) (k0_pay4 x wk) (k0_pay5 x wk)) (k0_pay7 (k0_pay3 x wk) (k0_pay4 x wk) (k0_pay5 x wk)) 126#32 g b
      = keys (k0_pay3 x wk) g b := rfl

theorem normal_apply (dv f : FVec Ideal S2048x128 .f32) (g b : FVec Ideal S128 .f32) (r : Fin 2048) (d : Fin 128) :
    normal dv f g b (ix2 r d) = dv (ix2 r d)
      * Ideal.div 1 ((f (ix2 r 0) * Ideal.ofBits .f32 0x3C000000#32 + Ideal.ofBits .f32 0x3727C5AC#32)
          * Ideal.rsqrt (f (ix2 r 0) * Ideal.ofBits .f32 0x3C000000#32 + Ideal.ofBits .f32 0x3727C5AC#32))
      * g (ix1 d) + b (ix1 d) := by
  pointwise [normal]

/-- The keys at an index. -/
theorem keys_apply (y : FVec Ideal S2048x128 .f32) (g b : FVec Ideal S128 .f32) (r : Fin 2048) (d : Fin 128) :
    keys y g b (ix2 r d) = normMul (fun d => y (ix2 r d)) (g (ix1 d)) (b (ix1 d)) d := by
  unfold keys
  rw [normal_apply, laneSum_apply, subf_apply, means_apply]
  have hv : (∑ k : Fin 128, mulf (subf y (means y)) (subf y (means y)) (ix2 r k))
      = ∑ k : Fin 128, devMul (fun d => y (ix2 r d)) k * devMul (fun d => y (ix2 r d)) k := by
    refine Finset.sum_congr rfl fun k _ => ?_
    pointwise
    rw [means_apply]
    rfl
  rw [hv]
  rfl

end Cert.KernelIdeal.Keys
-- ==== Proof.SortStages.lean ====
module

public import proofs.«01_k».proof.Proof.Gen.KernelIdeal.Frame

@[expose] public section

set_option maxRecDepth 16384

/-! The printed sort as a list of stages: one stage as a function of the values and the indices, the list of (block size, distance),
and the sort as the fold of the stage over that list. -/

namespace Cert.KernelIdeal.Sort

open Idealize.ShloMosaic Cert.KernelIdeal Cert.KernelIdeal.Gen

variable {F : FTy → Type} [FloatOps F]

/-- The lane numbers of one row. -/
def lanes : IVec S1x2048 32 := iota .tc S1x2048 32 [1] iota_S1x2048_d1_w32

/-- The lane numbers of every row: the indices the sort starts from. -/
def lanes2 : IVec S256x2048 32 := iota .tc S256x2048 32 [1] iota_S256x2048_d1_w32

/-- Which lanes are the upper one of their pair. -/
def upper (d : BitVec 32) : IVec S1x2048 1 :=
  cmpi .ne (andi lanes (broadcast S1x2048 d)) (broadcast S1x2048 0#32)

/-- Which lanes lie in a block sorted downwards. -/
def down (m : BitVec 32) : IVec S1x2048 1 :=
  cmpi .eq (andi lanes (broadcast S1x2048 m)) (broadcast S1x2048 0#32)

/-- Which lanes, of every row, are the upper one of their pair. -/
def upper2 (d : BitVec 32) : IVec S256x2048 1 :=
  broadcastTo S256x2048 (shapeCast S1x2048 (upper d) shapeCasts_S1x2048_S1x2048) broadcasts_S1x2048_S256x2048

/-- Which lanes, of every row, keep the greater of the pair. -/
def takeHigh (m d : BitVec 32) : IVec S256x2048 1 :=
  broadcastTo S256x2048 (broadcastTo S256x2048 (xori (down m) (upper d)) broadcasts_S1x2048_S256x2048) broadcasts_S256x2048_S256x2048

/-- The entry at the other lane of the pair: `d` lanes away, `e` being the lanes less `d`. -/
def across {α : Type} (d e : BitVec 32) (v : S256x2048.Idx → α) : S256x2048.Idx → α :=
  select (upper2 d) (dynamicRotate 1 d none v rotates_S256x2048_d1) (dynamicRotate 1 e none v rotates_S256x2048_d1)

/-- Where the other lane's value is greater, or equal with a lower index. -/
def beaten (v pv : FVec F S256x2048 .f32) (ix pi : IVec S256x2048 32) : IVec S256x2048 1 :=
  ori (cmpf .ogt pv v) (andi (cmpf .oeq pv v) (cmpi .slt pi ix))

/-- Where a stage takes the other lane's entry. -/
def takes (m d e : BitVec 32) (v : FVec F S256x2048 .f32) (ix : IVec S256x2048 32) : IVec S256x2048 1 :=
  xori (xori (beaten v (across d e v) ix (across d e ix)) (takeHigh m d)) (constantI S256x2048 1 1#1)

/-- One stage: block size `m`, distance `d`, `e` the lanes less `d`. -/
def step (p : FVec F S256x2048 .f32 × IVec S256x2048 32) (t : BitVec 32 × BitVec 32 × BitVec 32) :
    FVec F S256x2048 .f32 × IVec S256x2048 32 :=
  (select (takes t.1 t.2.1 t.2.2 p.1 p.2) (across t.2.1 t.2.2 p.1) p.1,
   select (takes t.1 t.2.1 t.2.2 p.1 p.2) (across t.2.1 t.2.2 p.2) p.2)

/-- A stage's words: level `l`, distance `2 ^ s`. -/
def words (l s : Nat) : BitVec 32 × BitVec 32 × BitVec 32 :=
  (BitVec.ofNat 32 (2 ^ (l + 1)), BitVec.ofNat 32 (2 ^ s), BitVec.ofNat 32 (2048 - 2 ^ s))

/-- The stages in the order they run. -/
def schedule : List (Nat × Nat) :=
  (List.range 11).flatMap fun l => (List.range (l + 1)).reverse.map fun s => (l, s)

/-- The whole sort. -/
def sorted (v : FVec F S256x2048 .f32) : FVec F S256x2048 .f32 × IVec S256x2048 32 :=
  schedule.foldl (fun p t => step p (words t.1 t.2)) (v, lanes2)

/-! ## The scores of one block of queries -/

/-- One head's products of queries and keys. -/
def headDots (q : Vec F S256x128 .f32) (k : Vec F S2048x128 .f32) : FVec F S256x2048 .f32 :=
  matmul dot_S256x128_S2048x128_S256x2048_1_1_0_0_n_n none (shapeCast S256x128 q shapeCasts_S256x128_S256x128)
    (shapeCast S2048x128 k shapeCasts_S2048x128_S2048x128) (constant S256x2048 .f32 0x00000000#32)

/-- One head's gate, scaled, along every key. -/
def headGate (w : FVec F S256x8 .f32) (h : Nat) (hs : S256x8.Slices ![0, h] S256x1) : FVec F S256x2048 .f32 :=
  broadcastTo S256x2048 (mulf (extractStridedSlice S256x1 ![0, h] w hs) (broadcast S256x1 (Scalar.ofBits .f32 0x3DB504F3#32)))
    broadcasts_S256x1_S256x2048

/-- One head added to what the heads before it gave. -/
def addHead (acc : FVec F S256x2048 .f32) (q : Vec F S256x128 .f32) (k : Vec F S2048x128 .f32) (w : FVec F S256x8 .f32) (h : Nat)
    (hs : S256x8.Slices ![0, h] S256x1) : FVec F S256x2048 .f32 :=
  addf acc (mulf (headDots q k) (headGate w h hs))

/-- The scores of a block, from the eight heads' columns of the queries, the keys and the gates. -/
def blockScores (q : Fin 8 → Vec F S256x128 .f32) (k : Vec F S2048x128 .f32) (w : Vec F S256x8 .f32) : FVec F S256x2048 .f32 :=
  let w' := shapeCast S256x8 w shapeCasts_S256x8_S256x8
  addHead (addHead (addHead (addHead (addHead (addHead (addHead (addHead (broadcast S256x2048 (Scalar.ofBits .f32 0x00000000#32))
    (q 0) k w' 0 slices_S256x8_o0_0_S256x1) (q 1) k w' 1 slices_S256x8_o0_1_S256x1) (q 2) k w' 2 slices_S256x8_o0_2_S256x1)
    (q 3) k w' 3 slices_S256x8_o0_3_S256x1) (q 4) k w' 4 slices_S256x8_o0_4_S256x1) (q 5) k w' 5 slices_S256x8_o0_5_S256x1)
    (q 6) k w' 6 slices_S256x8_o0_6_S256x1) (q 7) k w' 7 slices_S256x8_o0_7_S256x1

/-- Head `h`'s columns lie in a block of queries. -/
theorem headCols_inb (h : Fin 8) : ∀ a, (![0, 128 * h.val] : Fin 2 → Nat) a + S256x128.size a ≤ S256x1024.size a := by
  revert h; decide

/-- The rectangle of head `h`'s columns. -/
def headRect (h : Fin 8) : Rect S256x1024 := Rect.unit (s := S256x1024) ![0, 128 * h.val] S256x128.size (headCols_inb h)

/-- What the body stores for one block, from its three input blocks. -/
def blockOut (x0 : Vec F S256x1024 .f32) (x1 : Vec F S256x8 .f32) (x2 : Vec F S2048x128 .f32) : IVec S256x512 32 :=
  extractStridedSlice S256x512 ![0, 0] (sorted (blockScores (fun h x => x0 ((headRect h).toLoadRect.idx x)) x2 x1)).2
    slices_S256x2048_o0_0_S256x512

end Cert.KernelIdeal.Sort
-- ==== Proof.SortOrder.lean ====
module

public import Idealize.ShloMosaic.Lib.SortFacts
public import Idealize.ShloMosaic.Lib.SortNet.Sorts
public import Mathlib.Data.Prod.Lex
public import Mathlib.Data.EReal.Basic

@[expose] public section

/-! The stable descending sort of a row and the order of its (value, index) pairs: a rearrangement that leaves the pairs in descending
order, equal values by rising index, is the one the stable sort makes. -/

namespace Cert.KernelIdeal.Sort

open Idealize.ShloMosaic

/-- An entry of the sort: a value and its index, ordered by value and then by falling index. -/
abbrev Ent (n : Nat) := EReal ×ₗ (Fin n)ᵒᵈ

/-- The entry of a row at an index. -/
def ent {n : Nat} (x : Fin n → EReal) (i : Fin n) : Ent n := toLex (x i, OrderDual.toDual i)

theorem ent_injective {n : Nat} (x : Fin n → EReal) : Function.Injective (ent x) := by
  intro i j h
  have := congrArg (fun e : Ent n => OrderDual.ofDual (ofLex e).2) h
  exact this

theorem ent_lt {n : Nat} (x : Fin n → EReal) (i j : Fin n) : ent x i < ent x j ↔ x i < x j ∨ x i = x j ∧ j < i := by
  unfold ent
  rw [Prod.Lex.toLex_lt_toLex]
  rfl

/-- On a list that rises, the stable sort under "greater" is the sort under the order of the entries. -/
theorem stableSort_ent {n : Nat} (x : Fin n → EReal) (l : List (Fin n)) (hl : l.Pairwise (· < ·)) :
    stableSort (fun a b => decide (x b < x a)) l = stableSort (fun a b => decide (ent x b < ent x a)) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    rw [decide_eq_decide, ent_lt]
    constructor
    · exact Or.inl
    · rintro (h | ⟨_, h⟩)
      · exact h
      · exact absurd hab (not_lt.mpr h.le)

/-- A rearrangement that leaves the entries in descending order is the stable sort's. -/
theorem perm_eq_sortedFrom {n : Nat} (x : Fin n → EReal) (σ : Equiv.Perm (Fin n)) (h : Antitone fun k => ent x (σ k)) (k : Fin n) :
    σ k = sortedFrom (fun a b => decide (x b < x a)) k := by
  have hs : StrictAnti fun k => ent x (σ k) :=
    h.strictAnti_of_injective ((ent_injective x).comp σ.injective)
  have e : sortPositions n (fun a b => decide (x b < x a)) = List.ofFn σ := by
    rw [← sortPositions_of_perm σ]
    unfold sortPositions
    rw [stableSort_ent x _ (List.pairwise_lt_finRange n)]
    congr 1
    funext a b
    rw [decide_eq_decide]
    have := StrictAnti.lt_iff_gt hs (a := σ.symm b) (b := σ.symm a)
    simp only [Equiv.apply_symm_apply] at this
    exact this
  unfold sortedFrom
  rw [List.get_of_eq e]
  simp

end Cert.KernelIdeal.Sort
-- ==== Proof.SortRead.lean ====
module

public import proofs.«01_k».proof.Proof.SortStages
public import proofs.«01_k».proof.Proof.SortOrder
public import Idealize.ShloMosaic.Lib.SortNet.Printed
public import Idealize.ShloMosaic.Lib.WordCmp
public import Idealize.ShloMosaic.PureOps.Ideal.Laws
public import Idealize.ShloMosaic.Lib.Tactic
public import Idealize.ShloMosaic.Lib.Pipeline.Value

@[expose] public section

set_option maxRecDepth 16384

/-! One stage of the sort read on the entries of a row, and the whole sort: the indices it leaves are the stable descending sort's. -/

namespace Cert.KernelIdeal.Sort

open Idealize.ShloMosaic Idealize.ShloMosaic.SortNet Cert.KernelIdeal Cert.KernelIdeal.Gen

/-- The index of row `r` and lane `i`. -/
def at2 (r : Fin 256) (i : Fin (2 ^ 11)) : S256x2048.Idx := fun b => match b with
  | ⟨0, _⟩ => r
  | ⟨1, _⟩ => i

/-- The index of lane `i` of the one row. -/
def at1 (i : Fin (2 ^ 11)) : S1x2048.Idx := fun b => match b with
  | ⟨0, _⟩ => (0 : Fin 1)
  | ⟨1, _⟩ => i

/-- The lanes of row `r`. -/
def rowColumn (r : Fin 256) : Column S256x2048 1 11 where
  col := at2 r
  size_eq := rfl
  coord _ := rfl
  other i i' b hb := by
    match b, hb with
    | ⟨0, _⟩, _ => rfl
    | ⟨1, _⟩, hb => exact absurd rfl hb

/-- The lanes of the one row. -/
def oneColumn : Column S1x2048 1 11 where
  col := at1
  size_eq := rfl
  coord _ := rfl
  other i i' b hb := by
    match b, hb with
    | ⟨0, _⟩, _ => rfl
    | ⟨1, _⟩, hb => exact absurd rfl hb

/-- A mask of one row, broadcast to every row. -/
theorem broadcast_row {α : Type} (x : S1x2048.Idx → α) (r : Fin 256) (i : Fin (2 ^ 11)) :
    broadcastTo S256x2048 x broadcasts_S1x2048_S256x2048 (at2 r i) = x (at1 i) := by
  unfold broadcastTo
  congr 1
  funext b
  match b with
  | ⟨0, _⟩ => exact Subsingleton.elim (α := Fin 1) _ _
  | ⟨1, _⟩ => rfl

/-- A broadcast to the same shape changes nothing. -/
theorem broadcast_self {α : Type} (x : S256x2048.Idx → α) (r : Fin 256) (i : Fin (2 ^ 11)) :
    broadcastTo S256x2048 x broadcasts_S256x2048_S256x2048 (at2 r i) = x (at2 r i) := by
  unfold broadcastTo
  congr 1
  funext b
  match b with
  | ⟨0, _⟩ => rfl
  | ⟨1, _⟩ => rfl

theorem lanes_apply (i : Fin (2 ^ 11)) : lanes (oneColumn.col i) = BitVec.ofNat 32 i.val := oneColumn.iota_apply (κ := .tc) iota_S1x2048_d1_w32 i

theorem words_distance (l s : Nat) (hs : s < 11) : (words l s).2.1.toNat = 2 ^ s := by
  have : 2 ^ s < 2 ^ 11 := Nat.pow_lt_pow_right (by decide) hs
  show (BitVec.ofNat 32 (2 ^ s)).toNat = _
  rw [BitVec.toNat_ofNat, Nat.mod_eq_of_lt (by omega)]

theorem words_rest (l s : Nat) : (words l s).2.2.toNat = 2 ^ 11 - 2 ^ s := by
  show (BitVec.ofNat 32 (2048 - 2 ^ s)).toNat = _
  have : 2048 - 2 ^ s ≤ 2048 := Nat.sub_le _ _
  rw [BitVec.toNat_ofNat, Nat.mod_eq_of_lt (by omega)]
  rfl

theorem words_size (l s : Nat) (hl : l < 11) : (words l s).1.toNat = 2 ^ (l + 1) := by
  have : 2 ^ (l + 1) ≤ 2 ^ 11 := Nat.pow_le_pow_right (by decide) hl
  show (BitVec.ofNat 32 (2 ^ (l + 1))).toNat = _
  rw [BitVec.toNat_ofNat, Nat.mod_eq_of_lt (by omega)]

theorem upper_at (l s : Nat) (hs : s < 11) (i : Fin (2 ^ 11)) :
    upper (words l s).2.1 (at1 i) = BitVec.ofBool (decide (i.val &&& 2 ^ s ≠ 0)) :=
  upper_apply oneColumn (by decide) lanes lanes_apply _ (words_distance l s hs) i

theorem down_at (l s : Nat) (hl : l < 11) (i : Fin (2 ^ 11)) :
    down (words l s).1 (at1 i) = BitVec.ofBool (decide (i.val &&& 2 ^ (l + 1) = 0)) :=
  sizeClear_apply oneColumn (by decide) lanes lanes_apply _ (words_size l s hl) i

theorem upper2_at (l s : Nat) (hs : s < 11) (r : Fin 256) (i : Fin (2 ^ 11)) :
    upper2 (words l s).2.1 (at2 r i) = BitVec.ofBool (decide (i.val &&& 2 ^ s ≠ 0)) := by
  unfold upper2
  rw [broadcast_row, shapeCast_self]
  exact upper_at l s hs i

/-- The direction of a stage: the block of lane `i` at level `l` is sorted downwards. -/
def dir (l : Nat) (i : Fin (2 ^ 11)) : Bool := decide (i.val &&& 2 ^ (l + 1) = 0) == true

theorem takeHigh_at (l s : Nat) (hl : l < 11) (hs : s < 11) (r : Fin 256) (i : Fin (2 ^ 11)) :
    takeHigh (words l s).1 (words l s).2.1 (at2 r i) = BitVec.ofBool (upperXor s (dir l) i) := by
  unfold takeHigh
  rw [broadcast_self, broadcast_row, xori_apply_ofBool _ _ _ _ _ (down_at l s hl i) (upper_at l s hs i)]
  unfold upperXor dir
  rw [Bool.xor_comm, beq_true]

theorem across_at {α : Type} (l s : Nat) (hs : s < 11) (v : S256x2048.Idx → α) (r : Fin 256) (i : Fin (2 ^ 11)) :
    across (words l s).2.1 (words l s).2.2 v (at2 r i) = v (at2 r (partner 11 s i)) :=
  printedPartner_apply (rowColumn r) hs _ _ (upper2_at l s hs r) _ _ (words_distance l s hs) (words_rest l s) v i

/-- The value and the index of row `r` hold the entries `E`. -/
def Holds (r : Fin 256) (v : FVec Ideal S256x2048 .f32) (ix : IVec S256x2048 32) (E : Fin (2 ^ 11) → Ent (2 ^ 11)) : Prop :=
  ∀ i, v (at2 r i) = (ofLex (E i)).1 ∧ ix (at2 r i) = BitVec.ofNat 32 (OrderDual.ofDual (ofLex (E i)).2).val

/-- The printed comparison is the order of the entries. -/
theorem beats_iff (a b : EReal) (p q : Fin (2 ^ 11)) :
    IntOp.ori (Ideal.cmp .ogt b a) (IntOp.andi (Ideal.cmp .oeq b a) (IntOp.cmpi .slt (BitVec.ofNat 32 q.val) (BitVec.ofNat 32 p.val)))
      = BitVec.ofBool (decide ((toLex (a, OrderDual.toDual p) : Ent (2 ^ 11)) < toLex (b, OrderDual.toDual q))) := by
  have hp := p.isLt
  have hq := q.isLt
  rw [WordCmp.cmpi_slt_ofNat (by omega) (by omega)]
  rw [show Ideal.cmp .ogt b a = BitVec.ofBool (decide (a < b)) from rfl, show Ideal.cmp .oeq b a = BitVec.ofBool (decide (b = a)) from rfl]
  have : (toLex (a, OrderDual.toDual p) : Ent (2 ^ 11)) < toLex (b, OrderDual.toDual q) ↔ a < b ∨ b = a ∧ q.val < p.val := by
    rw [Prod.Lex.toLex_lt_toLex, eq_comm (a := b)]; rfl
  rw [decide_eq_decide.mpr this, Bool.decide_or, Bool.decide_and]
  cases decide (a < b) <;> cases decide (b = a) <;> cases decide (q.val < p.val) <;> rfl

theorem takes_at (l s : Nat) (hl : l < 11) (hs : s < 11) (r : Fin 256) (v : FVec Ideal S256x2048 .f32) (ix : IVec S256x2048 32)
    (E : Fin (2 ^ 11) → Ent (2 ^ 11)) (hE : Holds r v ix E) (i : Fin (2 ^ 11)) :
    takes (words l s).1 (words l s).2.1 (words l s).2.2 v ix (at2 r i)
      = BitVec.ofBool (decide (decide (E i < E (partner 11 s i)) = upperXor s (dir l) i)) := by
  have hb : beaten v (across (words l s).2.1 (words l s).2.2 v) ix (across (words l s).2.1 (words l s).2.2 ix) (at2 r i)
      = BitVec.ofBool (decide (E i < E (partner 11 s i))) := by
    show IntOp.ori (Ideal.cmp .ogt (across (words l s).2.1 (words l s).2.2 v (at2 r i)) (v (at2 r i)))
      (IntOp.andi (Ideal.cmp .oeq (across (words l s).2.1 (words l s).2.2 v (at2 r i)) (v (at2 r i)))
        (IntOp.cmpi .slt (across (words l s).2.1 (words l s).2.2 ix (at2 r i)) (ix (at2 r i)))) = _
    rw [across_at l s hs, across_at l s hs, (hE i).1, (hE i).2, (hE (partner 11 s i)).1, (hE (partner 11 s i)).2, beats_iff]
    rfl
  show IntOp.xori (IntOp.xori (beaten v _ ix _ (at2 r i)) (takeHigh _ _ (at2 r i))) 1#1 = _
  rw [hb, takeHigh_at l s hl hs, ofBool_xor_xor_one]

/-- One printed stage is one stage of the network on the entries. -/
theorem step_holds (l s : Nat) (hl : l < 11) (hsl : s ≤ l) (r : Fin 256) (p : FVec Ideal S256x2048 .f32 × IVec S256x2048 32)
    (E : Fin (2 ^ 11) → Ent (2 ^ 11)) (hE : Holds r p.1 p.2 E) :
    Holds r (step p (words l s)).1 (step p (words l s)).2 (Network.apply (stage 11 s (dir l)) E) := by
  have hs : s < 11 := lt_of_le_of_lt hsl hl
  intro i
  have ha : Network.apply (stage 11 s (dir l)) E i
      = if decide (E (partner 11 s i) < E i) = upperXor s (dir l) i then E i else E (partner 11 s i) := by
    rw [← stage_upperXor, apply_stage_select hs _ (fun j => upperXor_partner hs _ j (sizeClear_partner hs hsl true j))]
  show Scalar.select (takes _ _ _ p.1 p.2 (at2 r i)) (across _ _ p.1 (at2 r i)) (p.1 (at2 r i)) = _ ∧
    Scalar.select (takes _ _ _ p.1 p.2 (at2 r i)) (across _ _ p.2 (at2 r i)) (p.2 (at2 r i)) = _
  rw [takes_at l s hl hs r p.1 p.2 E hE, select_ofBool, select_ofBool, across_at l s hs, across_at l s hs, ha,
    (hE i).1, (hE i).2, (hE (partner 11 s i)).1, (hE (partner 11 s i)).2]
  have key : (if decide (E (partner 11 s i) < E i) = upperXor s (dir l) i then E i else E (partner 11 s i))
      = if decide (decide (E i < E (partner 11 s i)) = upperXor s (dir l) i) = true then E (partner 11 s i) else E i := by
    simp only [decide_eq_true_eq]
    rcases lt_trichotomy (E i) (E (partner 11 s i)) with h | h | h
    · rw [decide_eq_true h, decide_eq_false (not_lt.mpr h.le)]
      cases upperXor s (dir l) i <;> simp
    · rw [← h]
    · rw [decide_eq_true h, decide_eq_false (not_lt.mpr h.le)]
      cases upperXor s (dir l) i <;> simp
  rw [key]
  split <;> exact ⟨rfl, rfl⟩

/-- A run of stages of one list, on the entries. -/
theorem steps_holds (r : Fin 256) (L : List (Nat × Nat)) (hL : ∀ t ∈ L, t.1 < 11 ∧ t.2 ≤ t.1)
    (p : FVec Ideal S256x2048 .f32 × IVec S256x2048 32) (E : Fin (2 ^ 11) → Ent (2 ^ 11)) (hE : Holds r p.1 p.2 E) :
    Holds r (L.foldl (fun p t => step p (words t.1 t.2)) p).1 (L.foldl (fun p t => step p (words t.1 t.2)) p).2
      (Network.apply (L.flatMap fun t => stage 11 t.2 (dir t.1)) E) := by
  induction L generalizing p E with
  | nil => exact hE
  | cons t L ih =>
    rw [List.flatMap_cons, Network.apply_append, List.foldl_cons]
    have ht := hL t List.mem_cons_self
    exact ih (fun u hu => hL u (List.mem_cons_of_mem t hu)) _ _ (step_holds t.1 t.2 ht.1 ht.2 r p E hE)

theorem schedule_ok : ∀ t ∈ schedule, t.1 < 11 ∧ t.2 ≤ t.1 := by decide

/-- The stages of the schedule are the bitonic sort. -/
theorem schedule_net : (schedule.flatMap fun t => stage 11 t.2 (dir t.1)) = sortNet 11 true := by
  unfold schedule sortNet
  rw [List.flatMap_assoc]
  congr 1
  funext l
  rw [List.flatMap_map]
  rfl

/-- Row `r` of the values. -/
def row (v : FVec Ideal S256x2048 .f32) (r : Fin 256) : Fin (2 ^ 11) → EReal := fun i => v (at2 r i)

/-- The indices the sort leaves: the stable descending sort's. -/
theorem sorted_index (v : FVec Ideal S256x2048 .f32) (r : Fin 256) (i : Fin (2 ^ 11)) :
    (sorted v).2 (at2 r i)
      = BitVec.ofNat 32 (sortedFrom (fun a b => decide (row v r b < row v r a)) i).val := by
  have h0 : Holds r v lanes2 (ent (row v r)) := fun j =>
    ⟨rfl, (rowColumn r).iota_apply (κ := .tc) iota_S256x2048_d1_w32 j⟩
  have h := steps_holds r schedule schedule_ok (v, lanes2) _ h0
  rw [schedule_net] at h
  obtain ⟨σ, hσ⟩ := Network.exists_perm (sortNet 11 true) (ent (row v r))
  have hanti : Antitone fun k => ent (row v r) (σ k) := by
    have := sortNet_apply_antitone 11 (ent (row v r))
    rw [hσ] at this
    exact this
  rw [← perm_eq_sortedFrom (row v r) σ hanti i]
  have := (h i).2
  rw [hσ] at this
  exact this

end Cert.KernelIdeal.Sort
-- ==== Proof.SortRun.lean ====
module

public import proofs.«01_k».proof.Proof.SortStages

@[expose] public section

set_option maxRecDepth 65536

/-! What the body of the third call stores, as the fold of the stages. -/

namespace Cert.KernelIdeal.Sort

open Idealize.ShloMosaic Cert.KernelIdeal Cert.KernelIdeal.Gen

variable {F : FTy → Type} [FloatOps F]

theorem run_pieces (c : Dev nD) (i : grid2.Coords) (arg1 : Memref sig .tc .vmem S256x1024 .f32) (harg1 : arg1.IsWhole)
    (arg2 : Memref sig .tc .vmem S256x8 .f32) (harg2 : arg2.IsWhole) (arg3 : Memref sig .tc .vmem S2048x128 .f32) (harg3 : arg3.IsWhole)
    (arg4 : Memref sig .tc .vmem S256x512 .i32) (harg4 : arg4.IsWhole) (arg5 : Memref sig .tc .vmem S8x128 .f32) (harg5 : arg5.IsWhole)
    (x0 : Vec F S256x1024 .f32) (x1 : Vec F S256x8 .f32) (x2 : Vec F S2048x128 .f32) :
    (kernelRun2_A c i arg1 harg1 arg2 harg2 arg3 harg3 arg4 harg4 arg5 harg5 x0 x1 x2).1
      = [⟨Rect.unit (s := S256x512) ![0, 0] S256x512.size inb_S256x512_S256x512_0_0,
          extractStridedSlice S256x512 ![0, 0] (sorted (blockScores
              (fun h => View.readAt (Elt F) arg1.view (headRect h).toLoadRect (harg1.unread x0))
              (View.readAt (Elt F) arg3.view (Rect.unit ![0, 0] S2048x128.size inb_S2048x128_S2048x128_0_0).toLoadRect (harg3.unread x2))
              (View.readAt (Elt F) arg2.view (Rect.unit ![0, 0] S256x8.size inb_S256x8_S256x8_0_0).toLoadRect (harg2.unread x1)))).2
            slices_S256x2048_o0_0_S256x512⟩] := by
  sl_kernel_rfl

end Cert.KernelIdeal.Sort
-- ==== Proof.BlockRead.lean ====
module

public import proofs.«01_k».proof.Proof.SortRead
public import proofs.«01_k».proof.Proof.SortRun
public import Idealize.ShloMosaic.Lib.Pointwise

@[expose] public section

set_option maxRecDepth 16384

/-! The scores of a block at an index: the sum over the heads of a dot product times the scaled gate. -/

namespace Cert.KernelIdeal.Sort

open Idealize.ShloMosaic Cert.KernelIdeal Cert.KernelIdeal.Gen
open scoped BigOperators

/-- The scale of a score, as the number that the kernel holds. -/
noncomputable def scale : EReal := Ideal.ofBits .f32 0x3DB504F3#32

theorem addHead_apply (acc : FVec Ideal S256x2048 .f32) (q : Vec Ideal S256x128 .f32) (k : Vec Ideal S2048x128 .f32)
    (w : FVec Ideal S256x8 .f32) (h : Fin 8) (hs : S256x8.Slices ![0, h.val] S256x1) (r : Fin 256) (t : Fin 2048) :
    addHead (F := Ideal) acc q k w h.val hs (ix2 r t)
      = acc (ix2 r t) + (∑ d : Fin 128, (q (ix2 r d) : EReal) * (k (ix2 t d) : EReal)) * (w (ix2 r h) * scale) := by
  pointwise [addHead, headDots, headGate, scale]

/-- The scores of a block at an index, as a sum over the heads. -/
theorem blockScores_apply (q : Fin 8 → FVec Ideal S256x128 .f32) (k : FVec Ideal S2048x128 .f32) (w : FVec Ideal S256x8 .f32)
    (r : Fin 256) (t : Fin 2048) :
    blockScores (F := Ideal) q k w (ix2 r t)
      = ∑ h : Fin 8, (∑ d : Fin 128, q h (ix2 r d) * k (ix2 t d)) * (w (ix2 r h) * scale) := by
  have hw : (shapeCast S256x8 w shapeCasts_S256x8_S256x8 : FVec Ideal S256x8 .f32) = w := shapeCast_self _ _
  have h0 : (broadcast S256x2048 (Scalar.ofBits (F := Ideal) .f32 0x00000000#32) : FVec Ideal S256x2048 .f32) (ix2 r t) = 0 := by
    pointwise
  have A := fun (acc : FVec Ideal S256x2048 .f32) (h : Fin 8) hs => addHead_apply acc (q h) k w h hs r t
  unfold blockScores
  simp only [hw]
  rw [Fin.sum_univ_eight]
  refine (A _ 7 _).trans (congrArg (· + _) ?_)
  refine (A _ 6 _).trans (congrArg (· + _) ?_)
  refine (A _ 5 _).trans (congrArg (· + _) ?_)
  refine (A _ 4 _).trans (congrArg (· + _) ?_)
  refine (A _ 3 _).trans (congrArg (· + _) ?_)
  refine (A _ 2 _).trans (congrArg (· + _) ?_)
  refine (A _ 1 _).trans (congrArg (· + _) ?_)
  refine (A _ 0 _).trans ?_
  rw [h0, zero_add]

/-- The stored block at an index: the index of the key that comes `i`-th. -/
theorem blockOut_apply (x0 : FVec Ideal S256x1024 .f32) (x1 : FVec Ideal S256x8 .f32) (x2 : FVec Ideal S2048x128 .f32)
    (r : Fin 256) (i : Fin 512) :
    blockOut (F := Ideal) x0 x1 x2 (ix2 r i)
      = BitVec.ofNat 32 (sortedFrom (n := 2048) (fun a b => decide
          ((∑ h : Fin 8, (∑ d : Fin 128, x0 (ix2 r ⟨128 * h.val + d.val, by omega⟩) * x2 (ix2 b d)) * (x1 (ix2 r h) * scale))
          < (∑ h : Fin 8, (∑ d : Fin 128, x0 (ix2 r ⟨128 * h.val + d.val, by omega⟩) * x2 (ix2 a d)) * (x1 (ix2 r h) * scale))))
          ⟨i.val, by omega⟩).val := by
  have e : ∀ a : Fin 2048, row (blockScores (F := Ideal) (fun h x => x0 ((headRect h).toLoadRect.idx x)) x2 x1) r a
      = ∑ h : Fin 8, (∑ d : Fin 128, x0 (ix2 r ⟨128 * h.val + d.val, by omega⟩) * x2 (ix2 a d)) * (x1 (ix2 r h) * scale) := by
    intro a
    have ha : at2 r a = ix2 r a := by
      funext b
      match b with
      | ⟨0, _⟩ => rfl
      | ⟨1, _⟩ => rfl
    unfold row
    rw [ha]
    refine (blockScores_apply _ x2 x1 r a).trans ?_
    refine Finset.sum_congr rfl fun h _ => congrArg (· * _) (Finset.sum_congr rfl fun d _ => congrArg (· * _) (congrArg x0 ?_))
    funext b
    match b with
    | ⟨0, _⟩ => exact Fin.ext (show 0 + 1 * r.val = r.val by omega)
    | ⟨1, _⟩ => exact Fin.ext (show 128 * h.val + 1 * d.val = 128 * h.val + d.val by omega)
  refine Eq.trans ?_ ((sorted_index (blockScores (F := Ideal) (fun h x => x0 ((headRect h).toLoadRect.idx x)) x2 x1) r ⟨i.val, by omega⟩).trans ?_)
  · unfold blockOut
    pointwise
    refine congrArg (sorted _).2 ?_
    funext b
    match b with
    | ⟨0, _⟩ => rfl
    | ⟨1, _⟩ => rfl
  · simp only [e]
    rfl

end Cert.KernelIdeal.Sort
-- ==== Proof.Arrays.lean ====
module

public import proofs.«01_k».proof.Proof.KeyRead
public import proofs.«01_k».proof.Proof.BlockRead
public import Idealize.ShloMosaic.Lib.Pipeline.ValueKit
public import Idealize.ShloMosaic.Lib.VecWindow
public import Idealize.ShloMosaic.Lib.WholeRead

@[expose] public section

set_option maxRecDepth 16384

/-! The arrays that the three calls leave, from the arrays they read. -/

namespace Cert.KernelIdeal.Arrays

open Idealize.ShloMosaic Idealize.ShloMosaic.TcCoe Idealize.SL.Sem Cert.KernelIdeal Cert.KernelIdeal.Gen
open Idealize.ShloMosaic.Pipeline (Dat)
open scoped BigOperators

variable (V : (c : Dev nD) → (b : Ref sig .tc) → Buf (Elt Ideal) ((c : Thread nD τ).loc b))

theorem idx0 : ∀ t : Fin cfg0.N, win0_0.index t = ![0, 0] ∧ win0_1.index t = ![0, 0] ∧ win0_2.index t = ![0] ∧ win0_3.index t = ![0]
    ∧ win0_4.index t = ![0, 0] ∧ win0_5.index t = ![0, 0] ∧ win0_6.index t = ![0, 0] :=
  (by decide +kernel : ∀ t : Fin grid0.N, _)

theorem gates_arr (c : Dev nD) : (dat0 V c).arrAt 6 cfg0.N = k0_pay2 (F := Ideal) (V c main_v0) (V c main_arg6) := by
  refine (dat0 V c).arrAt_eq_of_covers 6 _ (by decide +kernel) fun t _ y => ?_
  blk_simp
  rw [after0_6]
  frame_out
  blk_point [iblk0, idx0 t]

theorem keys_arr (c : Dev nD) : (dat0 V c).arrAt 5 cfg0.N
    = Keys.keys (k0_pay3 (F := Ideal) (V c main_v0) (V c main_arg3)) (V c main_arg4) (V c main_arg5) := by
  refine (dat0 V c).arrAt_eq_of_covers 5 _ (by decide +kernel) fun t _ y => ?_
  have h0 : iblk0 V c 0 t = V c main_v0 := by blk_ext! [iblk0, idx0 t]
  have h1 : iblk0 V c 1 t = V c main_arg3 := by blk_ext! [iblk0, idx0 t]
  have h2 : iblk0 V c 2 t = V c main_arg4 := by blk_ext! [iblk0, idx0 t]
  have h3 : iblk0 V c 3 t = V c main_arg5 := by blk_ext! [iblk0, idx0 t]
  blk_simp
  rw [after0_5, h0, h1, h2, h3]
  unfold_out out0_5
  frame_out
  rw [Keys.keys_eq]
  blk_ext [idx0 t]

theorem idx1 : ∀ t : Fin cfg1.N, win1_0.index t = ![0, 0] ∧ win1_1.index t = ![0, 0] ∧ win1_2.index t = ![0, 0] :=
  (by decide +kernel : ∀ t : Fin grid1.N, _)

/-- The queries: one product. -/
noncomputable def queries (x : FVec Ideal S2048x1536 .f32) (w : FVec Ideal S1024x1536 .f32) : FVec Ideal S2048x1024 .f32 := fun i =>
  ∑ j : Fin 1536, x (ix2 (i 0) j) * w (ix2 (i 1) j)

theorem queries_arr (c : Dev nD) : (dat1 V c).arrAt 2 cfg1.N = queries (V c main_v1) (V c main_arg2) := by
  refine (dat1 V c).arrAt_eq_of_covers 2 _ (by decide +kernel) fun t _ y => ?_
  have h0 : iblk1 V c 0 t = V c main_v1 := by blk_ext! [iblk1, idx1 t]
  have h1 : iblk1 V c 1 t = V c main_arg2 := by blk_ext! [iblk1, idx1 t]
  blk_simp
  rw [after1_2, h0, h1]
  frame_out
  refine Eq.trans (b := queries (V c main_v1) (V c main_arg2) y) ?_ (by blk_ext [idx1 t])
  pointwise [k1_pay1, queries]
  rw [Fin.sum_univ_tiles 6 256 rfl, Fin.sum_univ_six]
  blk_point

/-- What the third call leaves for one block. -/
theorem block_eq (c : Dev nD) (t : Fin cfg2.N) :
    outsAt2 V c t = Sort.blockOut (F := Ideal) (iblk2 V c 0 t) (iblk2 V c 1 t) (iblk2 V c 2 t) := by
  unfold outsAt2 out2_A_3
  rw [Sort.run_pieces, View.read_writes_full]
  unfold Sort.blockOut
  have hk : View.readAt (Elt Ideal) (ms2_2 t).view (Rect.unit ![0, 0] S2048x128.size inb_S2048x128_S2048x128_0_0).toLoadRect
      ((hs2_2 t).unread (iblk2 V c 2 t)) = iblk2 V c 2 t := by
    rw [View.readAt_full, Memref.IsWhole.read_unread]
  have hw : View.readAt (Elt Ideal) (ms2_1 t).view (Rect.unit ![0, 0] S256x8.size inb_S256x8_S256x8_0_0).toLoadRect
      ((hs2_1 t).unread (iblk2 V c 1 t)) = iblk2 V c 1 t := by
    rw [View.readAt_full, Memref.IsWhole.read_unread]
  have hq : ∀ h : Fin 8, View.readAt (Elt Ideal) (ms2_0 t).view (Sort.headRect h).toLoadRect ((hs2_0 t).unread (iblk2 V c 0 t))
      = fun x => iblk2 V c 0 t ((Sort.headRect h).toLoadRect.idx x) := fun h => by
    funext x
    exact (hs2_0 t).readAt_unread _ _ _
  rw [hk, hw]
  simp only [hq]
  rfl

theorem idx2 : ∀ t : Fin cfg2.N, win2_0.index t = ![t.val, 0] ∧ win2_1.index t = ![t.val, 0] ∧ win2_2.index t = ![0, 0]
    ∧ win2_3.index t = ![t.val, 0] ∧ t.val < 8 :=
  (by decide +kernel : ∀ t : Fin grid2.N, _)

/-- The score of key `t` for query `s`. -/
noncomputable def score (q : FVec Ideal S2048x1024 .f32) (w : FVec Ideal S2048x8 .f32) (k : FVec Ideal S2048x128 .f32) (s t : Fin 2048) : EReal :=
  ∑ h : Fin 8, (∑ d : Fin 128, q (ix2 s ⟨128 * h.val + d.val, by omega⟩) * k (ix2 t d)) * (w (ix2 s h) * Sort.scale)

/-- The keys of the greatest scores of every query, the greatest first, the lower key first among equal ones. -/
noncomputable def picks (q : FVec Ideal S2048x1024 .f32) (w : FVec Ideal S2048x8 .f32) (k : FVec Ideal S2048x128 .f32) : IVec S2048x512 32 := fun i =>
  BitVec.ofNat 32 (sortedFrom (n := 2048) (fun a b => decide (score q w k (i 0) b < score q w k (i 0) a))
    ⟨(i 1).val, lt_trans (i 1).isLt (by decide)⟩).val

theorem picks_arr (c : Dev nD) : (dat2 V c).arrAt 3 cfg2.N = picks (V c main_v3) (V c main_v2_1) (V c main_v2_0) := by
  refine (dat2 V c).arrAt_eq_of_covers 3 _ (by decide +kernel) fun t _ y => ?_
  have h2 : iblk2 V c 2 t = V c main_v2_0 := by blk_ext! [iblk2, idx2 t]
  have ht := (idx2 t).2.2.2.2
  blk_simp
  rw [after2_3, block_eq, h2]
  obtain ⟨r, i, rfl⟩ : ∃ (r : Fin 256) (i : Fin 512), y = (ix2 r i : S256x512.Idx) := ⟨y 0, y 1, eq_ix2 y⟩
  have e : (((cfg2.win 3).blk t).view.emb (ix2 r i : S256x512.Idx)) = (ix2 (⟨256 * t.val + r.val, by omega⟩ : Fin 2048) i : S2048x512.Idx) := by
    blk_ext [idx2 t]
  have hq : ∀ j : Fin 1024, iblk2 V c 0 t (ix2 r j : S256x1024.Idx) = V c main_v3 (ix2 (⟨256 * t.val + r.val, by omega⟩ : Fin 2048) j : S2048x1024.Idx) := by
    intro j
    blk_ext [iblk2, idx2 t]
  have hw : ∀ j : Fin 8, iblk2 V c 1 t (ix2 r j : S256x8.Idx) = V c main_v2_1 (ix2 (⟨256 * t.val + r.val, by omega⟩ : Fin 2048) j : S2048x8.Idx) := by
    intro j
    blk_ext [iblk2, idx2 t]
  refine (Sort.blockOut_apply (iblk2 V c 0 t) (iblk2 V c 1 t) (V c main_v2_0) r i).trans ?_
  refine Eq.trans ?_ (congrArg (picks (V c main_v3) (V c main_v2_1) (V c main_v2_0)) e.symm)
  unfold picks score
  simp only [ix2_0, ix2_1]
  simp only [hq, hw]
  rfl

end Cert.KernelIdeal.Arrays
-- ==== Proof.RunValue.lean ====
module

public import proofs.«01_k».proof.Proof.Arrays

@[expose] public section

set_option maxRecDepth 16384

/-! The run of the whole kernel with its result named: the picks over the scores of the arrays that the first two calls leave. -/

namespace Cert.KernelIdeal.RunValue

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable (m : (ℓ : Loc nD τ sig) → Buf (Elt Ideal) ℓ) (ρ : Dev nD → PrngReg)

/-- The input rows without the unit axis. -/
noncomputable abbrev rows (c : Dev nD) : FVec Ideal S2048x2048 .f32 := shapeCast S2048x2048 (m ((c : Thread nD τ).loc main_arg0)) shapeCasts_S1x2048x2048_S2048x2048

/-- The query rows without the unit axis. -/
noncomputable abbrev queryRows (c : Dev nD) : FVec Ideal S2048x1536 .f32 := shapeCast S2048x1536 (m ((c : Thread nD τ).loc main_arg1)) shapeCasts_S1x2048x1536_S2048x1536

theorem V1_rows (c : Dev nD) : V1 m ρ c main_v0 = rows m c := by
  show StableHlo.after hostOps0 (W0 m ρ c) (Proc.devRef .tc main_v0) = _
  entry_read
  rfl

theorem V2_queryRows (c : Dev nD) : V2 m ρ c main_v1 = queryRows m c := by
  refine (W2_of_ne m ρ c main_v1 (by decide)).trans ?_
  show StableHlo.after hostOps0 (W0 m ρ c) (Proc.devRef .tc main_v1) = _
  entry_read
  rfl

theorem V1_arg3 (c : Dev nD) : V1 m ρ c main_arg3 = m ((c : Thread nD τ).loc main_arg3) := W1_args m ρ c _ (by decide)
theorem V1_arg4 (c : Dev nD) : V1 m ρ c main_arg4 = m ((c : Thread nD τ).loc main_arg4) := W1_args m ρ c _ (by decide)
theorem V1_arg5 (c : Dev nD) : V1 m ρ c main_arg5 = m ((c : Thread nD τ).loc main_arg5) := W1_args m ρ c _ (by decide)
theorem V1_arg6 (c : Dev nD) : V1 m ρ c main_arg6 = m ((c : Thread nD τ).loc main_arg6) := W1_args m ρ c _ (by decide)
theorem V2_arg2 (c : Dev nD) : V2 m ρ c main_arg2 = m ((c : Thread nD τ).loc main_arg2) := W2_args m ρ c _ (by decide)

/-- The keys that the third call reads. -/
theorem V3_keys (c : Dev nD) : V3 m ρ c main_v2_0
    = Keys.keys (k0_pay3 (F := Ideal) (rows m c) (m ((c : Thread nD τ).loc main_arg3))) (m ((c : Thread nD τ).loc main_arg4)) (m ((c : Thread nD τ).loc main_arg5)) := by
  refine (W3_of_ne m ρ c main_v2_0 (by decide)).trans ((W2_arr m ρ c 5).trans ?_)
  rw [Arrays.keys_arr, V1_rows, V1_arg3, V1_arg4, V1_arg5]

/-- The gates that the third call reads. -/
theorem V3_gates (c : Dev nD) : V3 m ρ c main_v2_1 = k0_pay2 (F := Ideal) (rows m c) (m ((c : Thread nD τ).loc main_arg6)) := by
  refine (W3_of_ne m ρ c main_v2_1 (by decide)).trans ((W2_arr m ρ c 6).trans ?_)
  rw [Arrays.gates_arr, V1_rows, V1_arg6]

/-- The queries that the third call reads. -/
theorem V3_queries (c : Dev nD) : V3 m ρ c main_v3 = Arrays.queries (queryRows m c) (m ((c : Thread nD τ).loc main_arg2)) := by
  refine (W3_arr m ρ c 2).trans ?_
  rw [Arrays.queries_arr, V2_queryRows, V2_arg2]

/-- What the kernel returns. -/
noncomputable def result (c : Dev nD) : Buf (Elt Ideal) ((c : Thread nD τ).loc main_v5) :=
  shapeCast S1x2048x512 (Arrays.picks (V3 m ρ c main_v3) (V3 m ρ c main_v2_1) (V3 m ρ c main_v2_0)) shapeCasts_S2048x512_S1x2048x512

theorem W5_result (c : Dev nD) : W5 m ρ c (Proc.devRef .tc main_v5) = result m ρ c := by
  have h4 : W4 m ρ c (Proc.devRef .tc main_v4) = Arrays.picks (V3 m ρ c main_v3) (V3 m ρ c main_v2_1) (V3 m ρ c main_v2_0) :=
    (W4_arr m ρ c 3).trans (Arrays.picks_arr (V3 m ρ) c)
  show StableHlo.after hostOps3 (W4 m ρ c) (Proc.devRef .tc main_v5) = _
  entry_read
  rw [h4]
  rfl

local notation "𝕄" => MT nD τ sig Unit (Elt Ideal) ℕ (UR sig nD τ) ℕ

set_option backward.isDefEq.respectTransparency.types false in
/-- Every run ends with every buffer outside the regions at its computed contents. -/
theorem run_contents : θ_run defs (onTc (τ := τ) (main (F := Ideal))) ⟨m, fun _ => 0, ρ⟩
    (fun r => ∀ c : Dev nD, ∀ b ∈ Pipeline.ucRefs τ sig, r.2.mem (((c : Thread nD τ)).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h _ => h)

/-- The run with the result named and the arguments unchanged. -/
theorem run : θ_run defs (onTc (τ := τ) (main (F := Ideal))) ⟨m, fun _ => 0, ρ⟩ (fun r => ∀ c : Dev nD,
      r.2.mem ((c.tc : Thread nD τ).loc main_v5) = result m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v5 (by decide))).trans (W5_result m ρ c),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c)⟩) (run_contents m ρ)

end Cert.KernelIdeal.RunValue
-- ==== Proof.NormEq.lean ====
module

public import proofs.«01_k».proof.Proof.Spec
public import Idealize.ShloMosaic.Lib.Pointwise

@[expose] public section

/-! The two layer norms agree on a row of real numbers: the variance with its small constant is then a positive real, whose
    product with its own reciprocal root is its root. -/

namespace Cert.Indexer

open Idealize.ShloMosaic
open scoped BigOperators

theorem ofBits_128 : Ideal.ofBits .f32 0x43000000#32 = ((128 : ℝ) : EReal) := by
  simp [Ideal.ofBits, Ideal.ieee, -EReal.coe_mul]; norm_num

theorem ofBits_inv_128 : Ideal.ofBits .f32 0x3C000000#32 = ((1 / 128 : ℝ) : EReal) := by
  simp [Ideal.ofBits, Ideal.ieee, -EReal.coe_mul]; norm_num

theorem ofBits_top : Ideal.ofBits .f32 0x7F800000#32 = ⊤ := by
  simp [Ideal.ofBits, Ideal.ieee]

theorem ofBits_eps : ∃ e : ℝ, 0 < e ∧ Ideal.ofBits .f32 0x3727C5AC#32 = (e : EReal) := by
  refine ⟨10995116 * 2 ^ (-40 : ℤ), by positivity, ?_⟩
  simp [Ideal.ofBits, Ideal.ieee, -EReal.coe_mul]

/-- A number whose absolute value is below the top is real. -/
theorem real_of_abs_lt {x : EReal} (h : max x (-x) < ⊤) : ∃ r : ℝ, x = r := by
  induction x with
  | bot => simp at h
  | top => simp at h
  | coe r => exact ⟨r, rfl⟩

theorem real_add {x y : EReal} (hx : ∃ r : ℝ, x = r) (hy : ∃ r : ℝ, y = r) : ∃ r : ℝ, x + y = r := by
  obtain ⟨a, rfl⟩ := hx
  obtain ⟨b, rfl⟩ := hy
  exact ⟨a + b, (EReal.coe_add a b).symm⟩

theorem real_mul {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

theorem coe_sum_real {n : ℕ} (r : Fin n → ℝ) : ((∑ d, r d : ℝ) : EReal) = ∑ d, (r d : EReal) := by
  induction n with
  | zero => simp
  | succ n ih => rw [Fin.sum_univ_succ, Fin.sum_univ_succ, EReal.coe_add, ih]

/-- A sum of reals is real. -/
theorem real_sum {n : ℕ} (y : Fin n → EReal) (h : ∀ d, ∃ r : ℝ, y d = r) : ∃ r : ℝ, ∑ d, y d = r := by
  choose r hr using h
  exact ⟨∑ d, r d, by rw [coe_sum_real]; exact Finset.sum_congr rfl fun d _ => hr d⟩

theorem meanMul_eq (y : Fin 128 → EReal) : meanMul y = meanDiv y := by
  rw [meanMul, meanDiv, ofBits_128, ofBits_inv_128, Ideal.div_coe (by norm_num)]

theorem meanDiv_coe (r : Fin 128 → ℝ) : meanDiv (fun d => (r d : EReal)) = (((∑ d, r d) * (1 / 128) : ℝ) : EReal) := by
  rw [meanDiv, ofBits_128, Ideal.div_coe (by norm_num), EReal.coe_mul, coe_sum_real]

/-- The variance of a row of reals, with the small constant, is a positive real. -/
theorem varMul_pos (r : Fin 128 → ℝ) : ∃ v : ℝ, 0 < v ∧ varMul (fun d => (r d : EReal)) = v := by
  obtain ⟨e, he, heq⟩ := ofBits_eps
  have hd : ∀ d, devMul (fun d => (r d : EReal)) d = ((r d - (∑ d, r d) * (1 / 128) : ℝ) : EReal) := fun d => by
    rw [devMul, meanMul_eq, meanDiv_coe, EReal.coe_sub]
  refine ⟨(∑ d, (r d - (∑ d, r d) * (1 / 128)) * (r d - (∑ d, r d) * (1 / 128))) * (1 / 128) + e, ?_, ?_⟩
  · have : 0 ≤ ∑ d, (r d - (∑ d, r d) * (1 / 128)) * (r d - (∑ d, r d) * (1 / 128)) :=
      Finset.sum_nonneg fun d _ => mul_self_nonneg _
    positivity
  · rw [varMul, heq, meanMul_eq, EReal.coe_add, ← meanDiv_coe]
    congr 2
    funext d
    rw [hd, ← EReal.coe_mul]

/-- A positive real times its reciprocal root is its root, so the quotient by either is the same. -/
theorem mul_inv_root {v : ℝ} (hv : 0 < v) (x : EReal) :
    x * Ideal.div 1 ((v : EReal) * Ideal.rsqrt v) = Ideal.div x (Ideal.sqrt v) := by
  have hs : Real.sqrt v ≠ 0 := (Real.sqrt_pos.mpr hv).ne'
  have hm : (v : EReal) * Ideal.rsqrt v = (Real.sqrt v : EReal) := by
    rw [Ideal.rsqrt_coe, if_neg hv.not_gt, if_neg hv.ne', ← EReal.coe_mul]
    congr 1
    rw [← div_eq_mul_inv, Real.div_sqrt]
  rw [hm, Ideal.sqrt_coe, if_neg hv.not_gt, Ideal.div_coe hs, Ideal.div_coe hs, one_mul]

/-- The two layer norms of a row of reals are equal, whatever the gain and the shift. -/
theorem normMul_eq (y : Fin 128 → EReal) (h : ∀ d, ∃ r : ℝ, y d = r) (g b : EReal) (d : Fin 128) :
    normMul y g b d = normDiv y g b d := by
  choose r hr using h
  obtain rfl : y = fun d => (r d : EReal) := funext hr
  obtain ⟨v, hv, he⟩ := varMul_pos r
  have he' : meanDiv (fun d => ((r d : EReal) - meanDiv fun d => (r d : EReal)) * ((r d : EReal) - meanDiv fun d => (r d : EReal)))
      + Ideal.ofBits .f32 0x3727C5AC#32 = v := by
    rw [← he, varMul, meanMul_eq]
    simp only [devMul, meanMul_eq]
  rw [normMul, normDiv, he, he', mul_inv_root hv, devMul, meanMul_eq]

end Cert.Indexer
-- ==== Proof.RefRead.lean ====
module

public import proofs.«01_k».proof.Proof.NormEq
public import proofs.«01_k».proof.Proof.Gen.ReferenceIdeal
public import proofs.«01_k».proof.Proof.Gen.ReferenceIdeal.Run
public import Idealize.ShloMosaic.Lib.Pointwise

@[expose] public section

set_option maxRecDepth 16384

/-! The reference's result read at an index: the normalised keys, the gates, the scores, the picked positions. -/

namespace Cert.ReferenceIdeal.Read

open Idealize.ShloMosaic Cert.ReferenceIdeal Cert.ReferenceIdeal.Gen Cert.Indexer
open scoped BigOperators

/-- The keys before their layer norm. -/
noncomputable def proj (x : FVec Ideal S1x2048x2048 .f32) (w : FVec Ideal S128x2048 .f32) : FVec Ideal S1x2048x128 .f32 :=
  Host.dotGeneral dot_S1x2048x2048_S2048x128_S1x2048x128_2_0_01_1_n_n none x (transpose S2048x128 [1, 0] w transposes_S128x2048_S2048x128_1_0)

theorem proj_apply (x : FVec Ideal S1x2048x2048 .f32) (w : FVec Ideal S128x2048 .f32) (t : Fin 2048) (d : Fin 128) :
    proj x w (ix3 0 t d) = ∑ j : Fin 2048, x (ix3 0 t j) * w (ix2 d j) := by
  pointwise [proj]

/-- A row's mean, one lane wide. -/
noncomputable def means (y : FVec Ideal S1x2048x128 .f32) : FVec Ideal S1x2048x1 .f32 :=
  Host.divf (broadcastInDim S1x2048x1 ![0, 1] bcast_S1x2048_S1x2048x1_0_1
    (Host.reduceAdd y (constant S_ .f32 0x00000000#32) reducesTo_S1x2048x128_S1x2048_d2 h_S_))
    (broadcastInDim S1x2048x1 ![] bcast_S_S1x2048x1 (constant S_ .f32 0x43000000#32))

theorem means_apply (y : FVec Ideal S1x2048x128 .f32) (t : Fin 2048) :
    means y (ix3 0 t 0) = meanDiv fun d => y (ix3 0 t d) := by
  unfold meanDiv
  pointwise [means]

/-- The rows less their means. -/
noncomputable def centred (y : FVec Ideal S1x2048x128 .f32) : FVec Ideal S1x2048x128 .f32 :=
  subf y (broadcastInDim S1x2048x128 ![0, 1, 2] bcast_S1x2048x1_S1x2048x128_0_1_2 (means y))

theorem centred_apply (y : FVec Ideal S1x2048x128 .f32) (t : Fin 2048) (d : Fin 128) :
    centred y (ix3 0 t d) = y (ix3 0 t d) - meanDiv fun d => y (ix3 0 t d) := by
  rw [← means_apply]
  pointwise [centred]

/-- The number of summands the variance divides by. -/
noncomputable def count : FVec Ideal S_ .f32 :=
  subf (constant S_ .f32 0x43000000#32) (sitofp .f32 (constantI S_ 32 0#32))

/-- The rows' variances, one lane wide. -/
noncomputable def variances (y : FVec Ideal S1x2048x128 .f32) : FVec Ideal S1x2048x1 .f32 :=
  select (broadcastInDim S1x2048x1 ![] bcast_S_S1x2048x1 (cmpf .ogt count (constant S_ .f32 0x00000000#32)))
    (Host.divf (broadcastInDim S1x2048x1 ![0, 1] bcast_S1x2048_S1x2048x1_0_1
      (Host.reduceAdd (mulf (centred y) (centred y)) (constant S_ .f32 0x00000000#32) reducesTo_S1x2048x128_S1x2048_d2 h_S_))
      (broadcastInDim S1x2048x1 ![] bcast_S_S1x2048x1 count))
    (broadcastInDim S1x2048x1 ![] bcast_S_S1x2048x1 (id (constant S_ .f32 0x7FC00000#32)))

theorem count_apply (i : S_.Idx) : count i = Ideal.ofBits .f32 0x43000000#32 := by
  show Ideal.ofBits .f32 0x43000000#32 - (((0#32 : BitVec 32).toInt : ℝ) : EReal) = _
  simp

theorem variances_apply (y : FVec Ideal S1x2048x128 .f32) (t : Fin 2048) :
    variances y (ix3 0 t 0) = meanDiv fun d => (y (ix3 0 t d) - meanDiv fun d => y (ix3 0 t d)) * (y (ix3 0 t d) - meanDiv fun d => y (ix3 0 t d)) := by
  pointwise [variances, centred_apply]
  rw [count_apply, if_pos (by rw [ofBits_128]; exact_mod_cast (by norm_num : (0 : ℝ) < 128))]
  rfl

/-- The layer norm of the rows. -/
noncomputable def keys (y : FVec Ideal S1x2048x128 .f32) (g b : FVec Ideal S128 .f32) : FVec Ideal S1x2048x128 .f32 :=
  addf (mulf (Host.divf (centred y) (broadcastInDim S1x2048x128 ![0, 1, 2] bcast_S1x2048x1_S1x2048x128_0_1_2
      (Host.sqrt (addf (variances y) (broadcastInDim S1x2048x1 ![] bcast_S_S1x2048x1 (constant S_ .f32 0x3727C5AC#32))))))
    (broadcastInDim S1x2048x128 ![0, 1, 2] bcast_S1x1x128_S1x2048x128_0_1_2 (broadcastInDim S1x1x128 ![2] bcast_S128_S1x1x128_2 g)))
    (broadcastInDim S1x2048x128 ![0, 1, 2] bcast_S1x1x128_S1x2048x128_0_1_2 (broadcastInDim S1x1x128 ![2] bcast_S128_S1x1x128_2 b))

theorem keys_apply (y : FVec Ideal S1x2048x128 .f32) (g b : FVec Ideal S128 .f32) (t : Fin 2048) (d : Fin 128) :
    keys y g b (ix3 0 t d) = normDiv (fun d => y (ix3 0 t d)) (g (ix1 d)) (b (ix1 d)) d := by
  unfold normDiv
  pointwise [keys, centred_apply, variances_apply]

/-- The gates. -/
noncomputable def gates (x : FVec Ideal S1x2048x2048 .f32) (w : FVec Ideal S8x2048 .f32) : FVec Ideal S1x2048x8 .f32 :=
  mulf (Host.dotGeneral dot_S1x2048x2048_S2048x8_S1x2048x8_2_0_01_1_n_n none x (transpose S2048x8 [1, 0] w transposes_S8x2048_S2048x8_1_0))
    (broadcastInDim S1x2048x8 ![] bcast_S_S1x2048x8 (constant S_ .f32 0x3EB504F3#32))

theorem gates_apply (x : FVec Ideal S1x2048x2048 .f32) (w : FVec Ideal S8x2048 .f32) (s : Fin 2048) (h : Fin 8) :
    gates x w (ix3 0 s h) = (∑ j : Fin 2048, x (ix3 0 s j) * w (ix2 h j)) * Ideal.ofBits .f32 0x3EB504F3#32 := by
  pointwise [gates]

/-- The queries, one row per head. -/
noncomputable def queries (x : FVec Ideal S1x2048x1536 .f32) (w : FVec Ideal S1024x1536 .f32) : FVec Ideal S1x2048x8x128 .f32 :=
  shapeCast _ (Host.dotGeneral dot_S1x2048x1536_S1536x1024_S1x2048x1024_2_0_01_1_n_n none x
    (transpose S1536x1024 [1, 0] w transposes_S1024x1536_S1536x1024_1_0)) shapeCasts_S1x2048x1024_S1x2048x8x128

theorem queries_apply (x : FVec Ideal S1x2048x1536 .f32) (w : FVec Ideal S1024x1536 .f32) (s : Fin 2048) (h : Fin 8) (d : Fin 128) :
    queries x w (ix4 0 s h d) = ∑ j : Fin 1536, x (ix3 0 s j) * w (ix2 ⟨128 * h.val + d.val, by omega⟩ j) := by
  pointwise [queries]
  simp only [Nat.mul_comm h.val 128]

/-- The scores: the heads' gated products, summed. -/
noncomputable def scores (q : FVec Ideal S1x2048x8x128 .f32) (k : FVec Ideal S1x2048x128 .f32) (w : FVec Ideal S1x2048x8 .f32) :
    FVec Ideal S1x2048x2048 .f32 :=
  Host.reduceAdd (mulf (mulf (Host.dotGeneral dot_S1x2048x8x128_S1x2048x128_S1x2048x8x2048_3_2_12_1_0_0 none q k)
      (broadcastInDim S1x2048x8x2048 ![] bcast_S_S1x2048x8x2048 (constant S_ .f32 0x3DB504F3#32)))
      (broadcastInDim S1x2048x8x2048 ![0, 1, 2, 3] bcast_S1x2048x8x1_S1x2048x8x2048_0_1_2_3
        (broadcastInDim S1x2048x8x1 ![0, 1, 2] bcast_S1x2048x8_S1x2048x8x1_0_1_2 w)))
    (constant S_ .f32 0x00000000#32) reducesTo_S1x2048x8x2048_S1x2048x2048_d2 h_S_

theorem scores_apply (q : FVec Ideal S1x2048x8x128 .f32) (k : FVec Ideal S1x2048x128 .f32) (w : FVec Ideal S1x2048x8 .f32) (s t : Fin 2048) :
    scores q k w (ix3 0 s t) = ∑ h : Fin 8, (∑ d : Fin 128, q (ix4 0 s h d) * k (ix3 0 t d)) * Ideal.ofBits .f32 0x3DB504F3#32 * w (ix3 0 s h) := by
  pointwise [scores]

/-- A sort by the first operand alone, carrying the positions: the carried position at an index. -/
theorem sort_positions {s : Shape} (a : Fin s.rank) {α : Type} (gt : α → α → BitVec 1) (x : s.Idx → α) (j : s.Idx) :
    (Host.sort2 s a.val (fun l r => gt l.1 r.1) x (iotaInDim s 32 a)).2 j =
      BitVec.ofNat 32 (sortedFrom (fun k k' => gt (x (j.along a k)) (x (j.along a k')) == 1#1) (j a)).val := by
  rw [Host.sort2, dif_pos a.isLt]
  simp only [iotaInDim, Shape.Idx.along, Function.update_self]

/-- The positions of the 512 largest scores of each row. -/
noncomputable def tops (z : FVec Ideal S1x2048x2048 .f32) : IVec S1x2048x512 32 :=
  (Host.topK S1x2048x512 2 (FloatOps.cmpfTotal .gt) z sliceFits_S1x2048x2048_S1x2048x512).2

theorem tops_apply (z : FVec Ideal S1x2048x2048 .f32) (s : Fin 2048) (i : Fin 512) :
    tops z (ix3 0 s i) = BitVec.ofNat 32 (sortedFrom (n := 2048) (fun a b => decide (z (ix3 0 s b) < z (ix3 0 s a))) ⟨i.val, by omega⟩).val := by
  have e : ∀ a b : EReal, (FloatOps.cmpfTotal (F := Ideal) (φ := .f32) .gt a b == 1#1) = decide (b < a) := fun a b => by
    change (BitVec.ofBool (decide (b < a)) == 1#1) = _
    cases decide (b < a) <;> rfl
  have ha : ∀ a b : Fin 2048, ((ix3 0 s a : S1x2048x2048.Idx).along (2 : Fin 3) b) = ix3 0 s b := fun a b => by
    funext k
    match k with
    | 0 => exact Function.update_of_ne (by decide) _ _
    | 1 => exact Function.update_of_ne (by decide) _ _
    | 2 => exact Function.update_self ..
  have hl : (Host.topK S1x2048x512 2 (FloatOps.cmpfTotal .gt) z sliceFits_S1x2048x2048_S1x2048x512).2 (ix3 0 s i)
      = (Host.sort2 S1x2048x2048 2 (fun l r => FloatOps.cmpfTotal (F := Ideal) (φ := .f32) .gt l.1 r.1) z
          (iotaInDim S1x2048x2048 32 2)).2 (ix3 0 s (⟨i.val, by omega⟩ : Fin 2048)) := by
    unfold Host.topK
    pointwise
    rfl
  rw [tops, hl]
  refine (sort_positions (s := S1x2048x2048) (2 : Fin 3) (FloatOps.cmpfTotal (F := Ideal) (φ := .f32) .gt) z _).trans ?_
  simp only [e]
  exact congrArg (fun f => BitVec.ofNat 32 (sortedFrom (n := 2048) f ⟨i.val, by omega⟩).val)
    (funext fun a => funext fun b => congrArg₂ (fun u v => decide (z u < z v)) (ha _ b) (ha _ a))

variable (m : (ℓ : Loc nD τ sig) → Buf (Elt Ideal) ℓ) (c : Dev nD)

theorem result_eq : Value.res_main_indices m c =
    tops (scores (queries (m ((c.tc : Thread nD τ).loc main_arg1)) (m ((c.tc : Thread nD τ).loc main_arg2)))
      (keys (proj (m ((c.tc : Thread nD τ).loc main_arg0)) (m ((c.tc : Thread nD τ).loc main_arg3)))
        (m ((c.tc : Thread nD τ).loc main_arg4)) (m ((c.tc : Thread nD τ).loc main_arg5)))
      (gates (m ((c.tc : Thread nD τ).loc main_arg0)) (m ((c.tc : Thread nD τ).loc main_arg6)))) := by
  rfl

end Cert.ReferenceIdeal.Read
-- ==== Proof.Equal.lean ====
module

public import proofs.«01_k».proof.Proof.RunValue
public import proofs.«01_k».proof.Proof.RefRead
public import proofs.«01_k».proof.Proof.NormEq

@[expose] public section

set_option maxRecDepth 16384

/-! The kernel's picks are the reference's where the input rows and the key weights are real. -/

namespace Cert.Equal

open Idealize.ShloMosaic Cert.Indexer
open scoped BigOperators

variable (x : FVec Ideal KernelIdeal.S1x2048x2048 .f32) (q : FVec Ideal KernelIdeal.S1x2048x1536 .f32)
  (wq : FVec Ideal KernelIdeal.S1024x1536 .f32) (wk : FVec Ideal KernelIdeal.S128x2048 .f32)
  (g b : FVec Ideal KernelIdeal.S128 .f32) (ww : FVec Ideal KernelIdeal.S8x2048 .f32)

/-- The input rows without the unit axis. -/
noncomputable def rows : FVec Ideal KernelIdeal.S2048x2048 .f32 :=
  shapeCast KernelIdeal.S2048x2048 x KernelIdeal.Gen.shapeCasts_S1x2048x2048_S2048x2048

theorem rows_apply (s j : Fin 2048) : rows x (ix2 s j) = x (ix3 0 s j) := by
  pointwise [rows]

/-- The query rows without the unit axis. -/
noncomputable def queryRows : FVec Ideal KernelIdeal.S2048x1536 .f32 :=
  shapeCast KernelIdeal.S2048x1536 q KernelIdeal.Gen.shapeCasts_S1x2048x1536_S2048x1536

theorem queryRows_apply (s : Fin 2048) (j : Fin 1536) : queryRows q (ix2 s j) = q (ix3 0 s j) := by
  pointwise [queryRows]

/-- The kernel's keys. -/
noncomputable def kernelKeys : FVec Ideal KernelIdeal.S2048x128 .f32 :=
  KernelIdeal.Keys.keys (KernelIdeal.Gen.k0_pay3 (F := Ideal) (rows x) wk) g b

/-- The keys are the reference's: a row of products of reals is real. -/
theorem keys_at (hx : ∀ i, ∃ r : ℝ, x i = r) (hk : ∀ i, ∃ r : ℝ, wk i = r) (t : Fin 2048) (d : Fin 128) :
    kernelKeys x wk g b (ix2 t d) = ReferenceIdeal.Read.keys (ReferenceIdeal.Read.proj x wk) g b (ix3 0 t d) := by
  rw [kernelKeys, KernelIdeal.Keys.keys_apply, ReferenceIdeal.Read.keys_apply, normMul_eq]
  · congr 1
    funext d
    rw [KernelIdeal.Keys.proj_apply, ReferenceIdeal.Read.proj_apply]
    exact Finset.sum_congr rfl fun j _ => by rw [rows_apply]
  · intro d
    rw [KernelIdeal.Keys.proj_apply]
    exact real_sum _ fun j => real_mul (by rw [rows_apply]; exact hx _) (hk _)

theorem gates_at (s : Fin 2048) (h : Fin 8) :
    KernelIdeal.Gen.k0_pay2 (F := Ideal) (rows x) ww (ix2 s h) = ReferenceIdeal.Read.gates x ww (ix3 0 s h) := by
  rw [KernelIdeal.Keys.gate_apply, ReferenceIdeal.Read.gates_apply]
  exact congrArg (· * _) (Finset.sum_congr rfl fun j _ => by rw [rows_apply])

theorem queries_at (s : Fin 2048) (h : Fin 8) (d : Fin 128) :
    KernelIdeal.Arrays.queries (queryRows q) wq (ix2 s ⟨128 * h.val + d.val, by omega⟩) = ReferenceIdeal.Read.queries q wq (ix4 0 s h d) := by
  rw [ReferenceIdeal.Read.queries_apply]
  show ∑ j : Fin 1536, queryRows q (ix2 s j) * wq (ix2 ⟨128 * h.val + d.val, _⟩ j) = _
  exact Finset.sum_congr rfl fun j _ => by rw [queryRows_apply]

theorem score_at (hx : ∀ i, ∃ r : ℝ, x i = r) (hk : ∀ i, ∃ r : ℝ, wk i = r) (s t : Fin 2048) :
    KernelIdeal.Arrays.score (KernelIdeal.Arrays.queries (queryRows q) wq) (KernelIdeal.Gen.k0_pay2 (F := Ideal) (rows x) ww) (kernelKeys x wk g b) s t
      = ReferenceIdeal.Read.scores (ReferenceIdeal.Read.queries q wq) (ReferenceIdeal.Read.keys (ReferenceIdeal.Read.proj x wk) g b)
          (ReferenceIdeal.Read.gates x ww) (ix3 0 s t) := by
  rw [ReferenceIdeal.Read.scores_apply, KernelIdeal.Arrays.score]
  refine Finset.sum_congr rfl fun h _ => ?_
  rw [gates_at, mul_comm (ReferenceIdeal.Read.gates x ww (ix3 0 s h)), ← mul_assoc]
  refine congrArg (· * _ * _) (Finset.sum_congr rfl fun d _ => ?_)
  rw [queries_at, keys_at x wk g b hx hk]

/-- The picks are the reference's. -/
theorem picks_at (hx : ∀ i, ∃ r : ℝ, x i = r) (hk : ∀ i, ∃ r : ℝ, wk i = r) :
    shapeCast KernelIdeal.S1x2048x512 (KernelIdeal.Arrays.picks (KernelIdeal.Arrays.queries (queryRows q) wq)
        (KernelIdeal.Gen.k0_pay2 (F := Ideal) (rows x) ww) (kernelKeys x wk g b)) KernelIdeal.Gen.shapeCasts_S2048x512_S1x2048x512
      = ReferenceIdeal.Read.tops (ReferenceIdeal.Read.scores (ReferenceIdeal.Read.queries q wq)
          (ReferenceIdeal.Read.keys (ReferenceIdeal.Read.proj x wk) g b) (ReferenceIdeal.Read.gates x ww)) := by
  funext i
  obtain ⟨z, s, k, rfl⟩ : ∃ (z : Fin 1) (s : Fin 2048) (k : Fin 512), i = (ix3 z s k : KernelIdeal.S1x2048x512.Idx) := ⟨i 0, i 1, i 2, eq_ix3 i⟩
  obtain rfl : z = 0 := Subsingleton.elim _ _
  rw [ReferenceIdeal.Read.tops_apply]
  pointwise
  exact congrArg (fun f => BitVec.ofNat 32 (sortedFrom (n := 2048) f ⟨k.val, by omega⟩).val)
    (funext fun a => funext fun a' => congrArg₂ (fun u v => decide (u < v)) (score_at x q wq wk g b ww hx hk s a')
      (score_at x q wq wk g b ww hx hk s a))

end Cert.Equal
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The precondition's side conditions. -/
instance preFacts : Cert.Pre_finite_rows.Facts := ⟨by decide, by decide⟩

/-- The precondition at a device: the input rows and the key weights are real. -/
theorem real_of_pre (m : (ℓ : Loc Cert.KernelIdeal.nD Cert.KernelIdeal.τ Cert.KernelIdeal.sig) → Buf (Elt Ideal) ℓ)
    (h : Cert.Pre_KernelIdeal_finite_rows m) (c : Dev Cert.KernelIdeal.nD) :
    (∀ i, ∃ r : ℝ, (m ((c.tc : Thread Cert.KernelIdeal.nD Cert.KernelIdeal.τ).loc Cert.KernelIdeal.main_arg0) : FVec Ideal Cert.KernelIdeal.S1x2048x2048 .f32) i = (r : EReal))
    ∧ ∀ i, ∃ r : ℝ, (m ((c.tc : Thread Cert.KernelIdeal.nD Cert.KernelIdeal.τ).loc Cert.KernelIdeal.main_arg3) : FVec Ideal Cert.KernelIdeal.S128x2048 .f32) i = (r : EReal) := by
  have key : ∀ y : EReal, BitVec.ofBool (decide (max y (-y) < Ideal.ofBits .f32 0x7F800000#32)) = 1#1 → ∃ r : ℝ, y = r := fun y hy =>
    Cert.Indexer.real_of_abs_lt (by
      rw [Cert.Indexer.ofBits_top] at hy
      by_contra hn
      rw [decide_eq_false hn] at hy
      exact absurd hy (by decide))
  exact ⟨fun i => key _ (congrFun (h c).1 i), fun i => key _ (congrFun (h c).2 i)⟩

/-- The kernel's result is the reference's, on arguments that agree and meet the precondition. -/
theorem results_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (h : Cert.Pre_KernelIdeal_finite_rows m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Value.res_main_indices m' c = Cert.KernelIdeal.RunValue.result m ρ c := by
  rw [Cert.ReferenceIdeal.Read.result_eq, h0, h1, h2, h3, h4, h5, h6, Cert.KernelIdeal.RunValue.result, Cert.KernelIdeal.RunValue.V3_queries,
    Cert.KernelIdeal.RunValue.V3_gates, Cert.KernelIdeal.RunValue.V3_keys]
  exact (Cert.Equal.picks_at _ _ _ _ _ _ _ (real_of_pre m h c).1 (real_of_pre m h c).2).symm

theorem reference_quiescent : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts, preFacts,
  fun m ρ _ => Cert.Kernel.Gen.frame m ρ, fun m ρ _ => Cert.KernelIdeal.Gen.frame m ρ, fun m ρ _ => Cert.KernelIdeal.Gen.frame m ρ,
  reference_quiescent, fun m ρ _ => reference_quiescent m ρ trivial, trivial,
  fun m ρ m' ρ' h hm => ⟨fun c => Cert.KernelIdeal.RunValue.result m ρ c, Cert.KernelIdeal.RunValue.run m ρ,
    (θ_run Cert.ReferenceIdeal.defs _ _).mono
      (fun _ hr c => ⟨(hr c).1.trans (results_eq m ρ m' h c (hm c).1 (hm c).2.1 (hm c).2.2.1 (hm c).2.2.2.1 (hm c).2.2.2.2.1
        (hm c).2.2.2.2.2.1 (hm c).2.2.2.2.2.2), (hr c).2⟩)
      (Cert.ReferenceIdeal.Value.run (F := Ideal) m' ρ')⟩⟩

end Cert.Proof

end
